-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_blocks [hPre_real_blocks : Cert.Pre_real_blocks.Facts] (m : (ℓ : Loc Cert.KernelIdeal.nD Cert.KernelIdeal.τ Cert.KernelIdeal.sig) → Buf (Elt Ideal) ℓ) : Prop :=
  ∀ c : Dev Cert.KernelIdeal.nD,
    (Cert.Pre_real_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_real_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_real_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_real_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_real_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_blocks [hPre_real_blocks : Cert.Pre_real_blocks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_real_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_real_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_real_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_real_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_real_blocks [hKernelIdeal : Cert.KernelIdeal.Facts] [hPre_real_blocks : Cert.Pre_real_blocks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_blocks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_real_blocks [hReferenceIdeal : Cert.ReferenceIdeal.Facts] [hPre_real_blocks : Cert.Pre_real_blocks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_blocks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "logit_scale" .f32 0x3E0293EE#32 (((Real.sqrt 128)⁻¹ * (Real.log 2)⁻¹ : ℝ) : EReal)

def preserves_Reference_ReferenceIdeal : Prop :=
  IdealRules.named_const.Statement Cert.ReferenceIdeal.κ "score_scale" .f32 0x3DB504F3#32 (((Real.sqrt 128)⁻¹ : ℝ) : EReal)
  ∧ IdealRules.named_const.Statement Cert.ReferenceIdeal.κ "ln2" .f32 0x3F317218#32 ((Real.log 2 : ℝ) : EReal)

def algebraic_KernelIdeal_ReferenceIdeal_pre_real_blocks [hKernelIdeal : Cert.KernelIdeal.Facts] [hReferenceIdeal : Cert.ReferenceIdeal.Facts] [hPre_real_blocks : Cert.Pre_real_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_blocks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_real_blocks : Cert.Pre_real_blocks.Facts),
    quiescent_Kernel (hKernel := hKernel)
    ∧ quiescent_KernelIdeal (hKernelIdeal := hKernelIdeal)
    ∧ quiescent_KernelIdeal_pre_real_blocks (hKernelIdeal := hKernelIdeal) (hPre_real_blocks := hPre_real_blocks)
    ∧ quiescent_ReferenceIdeal (hReferenceIdeal := hReferenceIdeal)
    ∧ quiescent_ReferenceIdeal_pre_real_blocks (hReferenceIdeal := hReferenceIdeal) (hPre_real_blocks := hPre_real_blocks)
    ∧ quiescent_Reference (hReference := hReference)
    ∧ preserves_Kernel_KernelIdeal
    ∧ preserves_Reference_ReferenceIdeal
    ∧ algebraic_KernelIdeal_ReferenceIdeal_pre_real_blocks (hKernelIdeal := hKernelIdeal) (hReferenceIdeal := hReferenceIdeal) (hPre_real_blocks := hPre_real_blocks)
-- ==== Pre_real_blocks.lean ====
abbrev S3x640x28x128 : Shape := ⟨4, ![3, 640, 28, 128]⟩
abbrev S3x640x28x4 : Shape := ⟨4, ![3, 640, 28, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S_ : Shape := ⟨0, ![]⟩

class Facts : Prop where
  bcast_S_S3x640x28x128 : S_.BroadcastsInDim S3x640x28x128 (![] : Fin 0 → Fin S3x640x28x128.rank)
  bcast_S_S3x640x28x4 : S_.BroadcastsInDim S3x640x28x4 (![] : Fin 0 → Fin S3x640x28x4.rank)
  bcast_S_S3x640x2x128 : S_.BroadcastsInDim S3x640x2x128 (![] : Fin 0 → Fin S3x640x2x128.rank)
  bcast_S_S3x640x2x4 : S_.BroadcastsInDim S3x640x2x4 (![] : Fin 0 → Fin S3x640x2x4.rank)
  bcast_S_S3x20x2x128 : S_.BroadcastsInDim S3x20x2x128 (![] : Fin 0 → Fin S3x20x2x128.rank)

variable [Facts]

def fn_part1 {F : FTy → Type} [FloatOps F] (main_arg3 : IVec S3x640x2x4 8) (main_arg5 : IVec S3x20x2x128 8) (main_v4 : IVec S3x640x28x128 1) (main_v9 : IVec S3x640x28x4 1) (main_v14 : IVec S3x640x2x128 1) (main_v16 : IVec S3x640x2x4 1) : IVec S3x640x28x128 1 × IVec S3x640x28x4 1 × IVec S3x640x2x128 1 × IVec S3x640x2x4 1 × IVec S3x20x2x128 1 :=
  let main_c_6 : IVec S_ 8 := constantI S_ 8 255#8
  let main_v17 : IVec S3x640x2x4 8 := broadcastInDim S3x640x2x4 ![] bcast_S_S3x640x2x4 main_c_6
  let main_v18 : IVec S3x640x2x4 1 := cmpi .ne main_arg3 main_v17
  let main_v19 : IVec S3x640x2x4 1 := andi main_v16 main_v18
  let main_c_7 : IVec S_ 8 := constantI S_ 8 0#8
  let main_v20 : IVec S3x20x2x128 8 := broadcastInDim S3x20x2x128 ![] bcast_S_S3x20x2x128 main_c_7
  let main_v21 : IVec S3x20x2x128 1 := cmpi .ne main_arg5 main_v20
  let main_c_8 : IVec S_ 8 := constantI S_ 8 255#8
  let main_v22 : IVec S3x20x2x128 8 := broadcastInDim S3x20x2x128 ![] bcast_S_S3x20x2x128 main_c_8
  let main_v23 : IVec S3x20x2x128 1 := cmpi .ne main_arg5 main_v22
  let main_v24 : IVec S3x20x2x128 1 := andi main_v21 main_v23
  (main_v4, main_v9, main_v14, main_v19, main_v24)

def fn {F : FTy → Type} [FloatOps F] (main_arg0 : IVec S3x640x28x128 8) (main_arg1 : IVec S3x640x28x4 8) (main_arg2 : IVec S3x640x2x128 8) (main_arg3 : IVec S3x640x2x4 8) (main_arg4 : IVec S3x640x2x128 8) (main_arg5 : IVec S3x20x2x128 8) : IVec S3x640x28x128 1 × IVec S3x640x28x4 1 × IVec S3x640x2x128 1 × IVec S3x640x2x4 1 × IVec S3x20x2x128 1 :=
  let main_c : IVec S_ 8 := constantI S_ 8 127#8
  let main_v0 : IVec S3x640x28x128 8 := broadcastInDim S3x640x28x128 ![] bcast_S_S3x640x28x128 main_c
  let main_v1 : IVec S3x640x28x128 1 := cmpi .ne main_arg0 main_v0
  let main_c_0 : IVec S_ 8 := constantI S_ 8 255#8
  let main_v2 : IVec S3x640x28x128 8 := broadcastInDim S3x640x28x128 ![] bcast_S_S3x640x28x128 main_c_0
  let main_v3 : IVec S3x640x28x128 1 := cmpi .ne main_arg0 main_v2
  let main_v4 : IVec S3x640x28x128 1 := andi main_v1 main_v3
  let main_c_1 : IVec S_ 8 := constantI S_ 8 0#8
  let main_v5 : IVec S3x640x28x4 8 := broadcastInDim S3x640x28x4 ![] bcast_S_S3x640x28x4 main_c_1
  let main_v6 : IVec S3x640x28x4 1 := cmpi .ne main_arg1 main_v5
  let main_c_2 : IVec S_ 8 := constantI S_ 8 255#8
  let main_v7 : IVec S3x640x28x4 8 := broadcastInDim S3x640x28x4 ![] bcast_S_S3x640x28x4 main_c_2
  let main_v8 : IVec S3x640x28x4 1 := cmpi .ne main_arg1 main_v7
  let main_v9 : IVec S3x640x28x4 1 := andi main_v6 main_v8
  let main_c_3 : IVec S_ 8 := constantI S_ 8 127#8
  let main_v10 : IVec S3x640x2x128 8 := broadcastInDim S3x640x2x128 ![] bcast_S_S3x640x2x128 main_c_3
  let main_v11 : IVec S3x640x2x128 1 := cmpi .ne main_arg2 main_v10
  let main_c_4 : IVec S_ 8 := constantI S_ 8 255#8
  let main_v12 : IVec S3x640x2x128 8 := broadcastInDim S3x640x2x128 ![] bcast_S_S3x640x2x128 main_c_4
  let main_v13 : IVec S3x640x2x128 1 := cmpi .ne main_arg2 main_v12
  let main_v14 : IVec S3x640x2x128 1 := andi main_v11 main_v13
  let main_c_5 : IVec S_ 8 := constantI S_ 8 0#8
  let main_v15 : IVec S3x640x2x4 8 := broadcastInDim S3x640x2x4 ![] bcast_S_S3x640x2x4 main_c_5
  let main_v16 : IVec S3x640x2x4 1 := cmpi .ne main_arg3 main_v15
  fn_part1 (F := F) main_arg3 main_arg5 main_v4 main_v9 main_v14 main_v16
-- ==== Kernel.lean ====
abbrev S3x640x28x128 : Shape := ⟨4, ![3, 640, 28, 128]⟩
abbrev S3x640x28x4 : Shape := ⟨4, ![3, 640, 28, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S3x28x640x128 : Shape := ⟨4, ![3, 28, 640, 128]⟩
abbrev S3x28x4x640 : Shape := ⟨4, ![3, 28, 4, 640]⟩
abbrev S3x2x640x128 : Shape := ⟨4, ![3, 2, 640, 128]⟩
abbrev S3x2x4x640 : Shape := ⟨4, ![3, 2, 4, 640]⟩
abbrev S3x2x20x128 : Shape := ⟨4, ![3, 2, 20, 128]⟩
abbrev S3x640x3584 : Shape := ⟨3, ![3, 640, 3584]⟩
abbrev S1x14x640x128 : Shape := ⟨4, ![1, 14, 640, 128]⟩
abbrev S1x14x4x640 : Shape := ⟨4, ![1, 14, 4, 640]⟩
abbrev S1x1x640x128 : Shape := ⟨4, ![1, 1, 640, 128]⟩
abbrev S1x1x4x640 : Shape := ⟨4, ![1, 1, 4, 640]⟩
abbrev S1x1x20x128 : Shape := ⟨4, ![1, 1, 20, 128]⟩
abbrev S1x640x1792 : Shape := ⟨3, ![1, 640, 1792]⟩
abbrev S640x256 : Shape := ⟨2, ![640, 256]⟩
abbrev S128x640 : Shape := ⟨2, ![128, 640]⟩
abbrev S280x128 : Shape := ⟨2, ![280, 128]⟩
abbrev S2x224x128 : Shape := ⟨3, ![2, 224, 128]⟩
abbrev S2x24x128 : Shape := ⟨3, ![2, 24, 128]⟩
abbrev S8x128 : Shape := ⟨2, ![8, 128]⟩
abbrev S4x640 : Shape := ⟨2, ![4, 640]⟩
abbrev S1x128 : Shape := ⟨2, ![1, 128]⟩
abbrev S16x128 : Shape := ⟨2, ![16, 128]⟩
abbrev S128x128 : Shape := ⟨2, ![128, 128]⟩
abbrev S1x1x128x128 : Shape := ⟨4, ![1, 1, 128, 128]⟩
abbrev S20x128 : Shape := ⟨2, ![20, 128]⟩
abbrev S1x1x32x128 : Shape := ⟨4, ![1, 1, 32, 128]⟩
abbrev S32x128 : Shape := ⟨2, ![32, 128]⟩
abbrev S4x128 : Shape := ⟨2, ![4, 128]⟩
abbrev S128x256 : Shape := ⟨2, ![128, 256]⟩
abbrev S32x256 : Shape := ⟨2, ![32, 256]⟩
abbrev S256x256 : Shape := ⟨2, ![256, 256]⟩
abbrev S1x8x128 : Shape := ⟨3, ![1, 8, 128]⟩
abbrev S1x1x128 : Shape := ⟨3, ![1, 1, 128]⟩
abbrev S128x32 : Shape := ⟨2, ![128, 32]⟩
abbrev S1x32x128 : Shape := ⟨3, ![1, 32, 128]⟩
abbrev S64x256 : Shape := ⟨2, ![64, 256]⟩
abbrev S64x128 : Shape := ⟨2, ![64, 128]⟩
abbrev S128x64 : Shape := ⟨2, ![128, 64]⟩
abbrev S96x256 : Shape := ⟨2, ![96, 256]⟩
abbrev S96x128 : Shape := ⟨2, ![96, 128]⟩
abbrev S128x96 : Shape := ⟨2, ![128, 96]⟩
abbrev S160x256 : Shape := ⟨2, ![160, 256]⟩
abbrev S160x128 : Shape := ⟨2, ![160, 128]⟩
abbrev S128x160 : Shape := ⟨2, ![128, 160]⟩
abbrev S192x256 : Shape := ⟨2, ![192, 256]⟩
abbrev S192x128 : Shape := ⟨2, ![192, 128]⟩
abbrev S128x192 : Shape := ⟨2, ![128, 192]⟩
abbrev S224x256 : Shape := ⟨2, ![224, 256]⟩
abbrev S224x128 : Shape := ⟨2, ![224, 128]⟩
abbrev S128x224 : Shape := ⟨2, ![128, 224]⟩
abbrev S256x128 : Shape := ⟨2, ![256, 128]⟩
abbrev S288x256 : Shape := ⟨2, ![288, 256]⟩
abbrev S288x128 : Shape := ⟨2, ![288, 128]⟩
abbrev S128x288 : Shape := ⟨2, ![128, 288]⟩
abbrev S320x256 : Shape := ⟨2, ![320, 256]⟩
abbrev S320x128 : Shape := ⟨2, ![320, 128]⟩
abbrev S128x320 : Shape := ⟨2, ![128, 320]⟩
abbrev S352x256 : Shape := ⟨2, ![352, 256]⟩
abbrev S352x128 : Shape := ⟨2, ![352, 128]⟩
abbrev S128x352 : Shape := ⟨2, ![128, 352]⟩
abbrev S384x256 : Shape := ⟨2, ![384, 256]⟩
abbrev S384x128 : Shape := ⟨2, ![384, 128]⟩
abbrev S128x384 : Shape := ⟨2, ![128, 384]⟩
abbrev S416x256 : Shape := ⟨2, ![416, 256]⟩
abbrev S416x128 : Shape := ⟨2, ![416, 128]⟩
abbrev S128x416 : Shape := ⟨2, ![128, 416]⟩
abbrev S448x256 : Shape := ⟨2, ![448, 256]⟩
abbrev S448x128 : Shape := ⟨2, ![448, 128]⟩
abbrev S128x448 : Shape := ⟨2, ![128, 448]⟩
abbrev S480x256 : Shape := ⟨2, ![480, 256]⟩
abbrev S480x128 : Shape := ⟨2, ![480, 128]⟩
abbrev S128x480 : Shape := ⟨2, ![128, 480]⟩
abbrev S512x256 : Shape := ⟨2, ![512, 256]⟩
abbrev S512x128 : Shape := ⟨2, ![512, 128]⟩
abbrev S128x512 : Shape := ⟨2, ![128, 512]⟩
abbrev S544x256 : Shape := ⟨2, ![544, 256]⟩
abbrev S544x128 : Shape := ⟨2, ![544, 128]⟩
abbrev S128x544 : Shape := ⟨2, ![128, 544]⟩
abbrev S576x256 : Shape := ⟨2, ![576, 256]⟩
abbrev S576x128 : Shape := ⟨2, ![576, 128]⟩
abbrev S128x576 : Shape := ⟨2, ![128, 576]⟩
abbrev S608x256 : Shape := ⟨2, ![608, 256]⟩
abbrev S608x128 : Shape := ⟨2, ![608, 128]⟩
abbrev S128x608 : Shape := ⟨2, ![128, 608]⟩
abbrev S640x128 : Shape := ⟨2, ![640, 128]⟩

abbrev nBuf : Space → Nat
  | .hbm => 16
  | .vmem => 20
  | .smem => 0
  | _ => 0

abbrev bufTy : (tb : Table) → Fin (tcTables nBuf tb) → BufTy
  | .hbm, ⟨0, _⟩ => ⟨S3x640x28x128, .i8⟩
  | .hbm, ⟨1, _⟩ => ⟨S3x640x28x4, .i8⟩
  | .hbm, ⟨2, _⟩ => ⟨S3x640x2x128, .i8⟩
  | .hbm, ⟨3, _⟩ => ⟨S3x640x2x4, .i8⟩
  | .hbm, ⟨4, _⟩ => ⟨S3x640x2x128, .i8⟩
  | .hbm, ⟨5, _⟩ => ⟨S3x20x2x128, .i8⟩
  | .hbm, ⟨6, _⟩ => ⟨S3x640x28x128, .fp8e4m3⟩
  | .hbm, ⟨7, _⟩ => ⟨S3x640x2x128, .fp8e4m3⟩
  | .hbm, ⟨8, _⟩ => ⟨S3x640x2x128, .fp8e4m3⟩
  | .hbm, ⟨9, _⟩ => ⟨S3x28x640x128, .fp8e4m3⟩
  | .hbm, ⟨10, _⟩ => ⟨S3x28x4x640, .i8⟩
  | .hbm, ⟨11, _⟩ => ⟨S3x2x640x128, .fp8e4m3⟩
  | .hbm, ⟨12, _⟩ => ⟨S3x2x4x640, .i8⟩
  | .hbm, ⟨13, _⟩ => ⟨S3x2x640x128, .fp8e4m3⟩
  | .hbm, ⟨14, _⟩ => ⟨S3x2x20x128, .i8⟩
  | .hbm, ⟨15, _⟩ => ⟨S3x640x3584, .bf16⟩
  | .local _ .vmem, ⟨0, _⟩ => ⟨S1x14x640x128, .fp8e4m3⟩
  | .local _ .vmem, ⟨1, _⟩ => ⟨S1x14x640x128, .fp8e4m3⟩
  | .local _ .vmem, ⟨2, _⟩ => ⟨S1x14x4x640, .i8⟩
  | .local _ .vmem, ⟨3, _⟩ => ⟨S1x14x4x640, .i8⟩
  | .local _ .vmem, ⟨4, _⟩ => ⟨S1x1x640x128, .fp8e4m3⟩
  | .local _ .vmem, ⟨5, _⟩ => ⟨S1x1x640x128, .fp8e4m3⟩
  | .local _ .vmem, ⟨6, _⟩ => ⟨S1x1x4x640, .i8⟩
  | .local _ .vmem, ⟨7, _⟩ => ⟨S1x1x4x640, .i8⟩
  | .local _ .vmem, ⟨8, _⟩ => ⟨S1x1x640x128, .fp8e4m3⟩
  | .local _ .vmem, ⟨9, _⟩ => ⟨S1x1x640x128, .fp8e4m3⟩
  | .local _ .vmem, ⟨10, _⟩ => ⟨S1x1x20x128, .i8⟩
  | .local _ .vmem, ⟨11, _⟩ => ⟨S1x1x20x128, .i8⟩
  | .local _ .vmem, ⟨12, _⟩ => ⟨S1x640x1792, .bf16⟩
  | .local _ .vmem, ⟨13, _⟩ => ⟨S1x640x1792, .bf16⟩
  | .local _ .vmem, ⟨14, _⟩ => ⟨S640x256, .bf16⟩
  | .local _ .vmem, ⟨15, _⟩ => ⟨S128x640, .bf16⟩
  | .local _ .vmem, ⟨16, _⟩ => ⟨S280x128, .i32⟩
  | .local _ .vmem, ⟨17, _⟩ => ⟨S2x224x128, .f32⟩
  | .local _ .vmem, ⟨18, _⟩ => ⟨S2x24x128, .f32⟩
  | .local _ .vmem, ⟨19, _⟩ => ⟨S2x24x128, .i32⟩
  | _, _ => ⟨S3x640x28x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x14x640x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x14x4x640 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x640x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x640x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x20x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x640x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "logit_scale" => some (((Real.sqrt 128)⁻¹ * (Real.log 2)⁻¹ : ℝ) : EReal)
  | _ => none
-- ==== ReferenceIdeal.lean ====
variable {F : FTy → Type} [FloatOps F] [Named F]
def κ : String → Option EReal := fun
  | "ln2" => some ((Real.log 2 : ℝ) : EReal)
  | "score_scale" => some (((Real.sqrt 128)⁻¹ : ℝ) : EReal)
  | _ => none
-- ==== Reference.lean ====
abbrev S3x640x28x128 : Shape := ⟨4, ![3, 640, 28, 128]⟩
abbrev S3x640x28x4 : Shape := ⟨4, ![3, 640, 28, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S3x640x3584 : Shape := ⟨3, ![3, 640, 3584]⟩
abbrev S3x640x28x4x32 : Shape := ⟨5, ![3, 640, 28, 4, 32]⟩
abbrev S3x640x28x4x1 : Shape := ⟨5, ![3, 640, 28, 4, 1]⟩
abbrev S3x640x2x14x128 : Shape := ⟨5, ![3, 640, 2, 14, 128]⟩
abbrev S3x640x2x4x32 : Shape := ⟨5, ![3, 640, 2, 4, 32]⟩
abbrev S3x640x2x4x1 : Shape := ⟨5, ![3, 640, 2, 4, 1]⟩
abbrev S3x20x32x2x128 : Shape := ⟨5, ![3, 20, 32, 2, 128]⟩
abbrev S3x20x1x2x128 : Shape := ⟨5, ![3, 20, 1, 2, 128]⟩
abbrev S3x2x14x640x128 : Shape := ⟨5, ![3, 2, 14, 640, 128]⟩
abbrev S6x8960x128 : Shape := ⟨3, ![6, 8960, 128]⟩
abbrev S3x2x640x128 : Shape := ⟨4, ![3, 2, 640, 128]⟩
abbrev S6x640x128 : Shape := ⟨3, ![6, 640, 128]⟩
abbrev S6x8960x640 : Shape := ⟨3, ![6, 8960, 640]⟩
abbrev S6x14x640x640 : Shape := ⟨4, ![6, 14, 640, 640]⟩
abbrev S6x14x640 : Shape := ⟨3, ![6, 14, 640]⟩
abbrev S6x14x640x1 : Shape := ⟨4, ![6, 14, 640, 1]⟩
abbrev S6x14x640x20x32 : Shape := ⟨5, ![6, 14, 640, 20, 32]⟩
abbrev S6x14x640x20 : Shape := ⟨4, ![6, 14, 640, 20]⟩
abbrev S6x14x640x20x1 : Shape := ⟨5, ![6, 14, 640, 20, 1]⟩

abbrev nBuf : Space → Nat
  | .hbm => 10
  | .vmem => 7
  | .smem => 0
  | _ => 0

abbrev bufTy : (tb : Table) → Fin (tcTables nBuf tb) → BufTy
  | .hbm, ⟨0, _⟩ => ⟨S3x640x28x128, .i8⟩
  | .hbm, ⟨1, _⟩ => ⟨S3x640x28x4, .i8⟩
  | .hbm, ⟨2, _⟩ => ⟨S3x640x2x128, .i8⟩
  | .hbm, ⟨3, _⟩ => ⟨S3x640x2x4, .i8⟩
  | .hbm, ⟨4, _⟩ => ⟨S3x640x2x128, .i8⟩
  | .hbm, ⟨5, _⟩ => ⟨S3x20x2x128, .i8⟩
  | .hbm, ⟨6, _⟩ => ⟨S3x640x28x128, .fp8e4m3⟩
  | .hbm, ⟨7, _⟩ => ⟨S3x640x2x128, .fp8e4m3⟩
  | .hbm, ⟨8, _⟩ => ⟨S3x640x2x128, .fp8e4m3⟩
  | .hbm, ⟨9, _⟩ => ⟨S3x640x3584, .bf16⟩
  | .local _ .vmem, ⟨0, _⟩ => ⟨S3x640x28x128, .fp8e4m3⟩
  | .local _ .vmem, ⟨1, _⟩ => ⟨S3x640x28x4, .i8⟩
  | .local _ .vmem, ⟨2, _⟩ => ⟨S3x640x2x128, .fp8e4m3⟩
  | .local _ .vmem, ⟨3, _⟩ => ⟨S3x640x2x4, .i8⟩
  | .local _ .vmem, ⟨4, _⟩ => ⟨S3x640x2x128, .fp8e4m3⟩
  | .local _ .vmem, ⟨5, _⟩ => ⟨S3x20x2x128, .i8⟩
  | .local _ .vmem, ⟨6, _⟩ => ⟨S3x640x3584, .bf16⟩
  | _, _ => ⟨S3x640x28x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x640x28x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x28x4 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x2x4 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x2x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x20x2x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Model.lean ====
/-
The body of the kernel once more, as loops: one program over any signature and any floats, whose
unrolled form is the printed body of both `Kernel` and `KernelIdeal`.
-/
module

public import Idealize.ShloMosaic.Lib.Pipeline
public import Idealize.ShloMosaic.PureOps
public import Idealize.ShloMosaic.PureOps.Ideal

@[expose] public section

noncomputable section

namespace Proof01k

open Idealize.ShloMosaic Idealize.SL.Sem

abbrev Q1x14x640x128 : Shape := ⟨4, ![1, 14, 640, 128]⟩
abbrev Q1x14x4x640 : Shape := ⟨4, ![1, 14, 4, 640]⟩
abbrev Q1x1x640x128 : Shape := ⟨4, ![1, 1, 640, 128]⟩
abbrev Q1x1x4x640 : Shape := ⟨4, ![1, 1, 4, 640]⟩
abbrev Q1x1x20x128 : Shape := ⟨4, ![1, 1, 20, 128]⟩
abbrev Q1x640x1792 : Shape := ⟨3, ![1, 640, 1792]⟩
abbrev Q640x256 : Shape := ⟨2, ![640, 256]⟩
abbrev Q128x640 : Shape := ⟨2, ![128, 640]⟩
abbrev Q280x128 : Shape := ⟨2, ![280, 128]⟩
abbrev Q2x224x128 : Shape := ⟨3, ![2, 224, 128]⟩
abbrev Q2x24x128 : Shape := ⟨3, ![2, 24, 128]⟩
abbrev Q4x640 : Shape := ⟨2, ![4, 640]⟩
abbrev Q20x128 : Shape := ⟨2, ![20, 128]⟩
abbrev Q1x128 : Shape := ⟨2, ![1, 128]⟩
abbrev Q4x128 : Shape := ⟨2, ![4, 128]⟩
abbrev Q8x128 : Shape := ⟨2, ![8, 128]⟩
abbrev Q16x128 : Shape := ⟨2, ![16, 128]⟩
abbrev Q32x128 : Shape := ⟨2, ![32, 128]⟩
abbrev Q128x128 : Shape := ⟨2, ![128, 128]⟩
abbrev Q128x256 : Shape := ⟨2, ![128, 256]⟩
abbrev Q256x256 : Shape := ⟨2, ![256, 256]⟩
abbrev Qn (n m : ℕ) : Shape := ⟨2, ![32 * n, m]⟩

/-- The body's memory: six input blocks, the output block and six scratch buffers. -/
structure Refs (sig : RefSig) where
  q : Memref sig .tc .vmem Q1x14x640x128 .fp8e4m3
  qs : Memref sig .tc .vmem Q1x14x4x640 .i8
  k : Memref sig .tc .vmem Q1x1x640x128 .fp8e4m3
  ks : Memref sig .tc .vmem Q1x1x4x640 .i8
  v : Memref sig .tc .vmem Q1x1x640x128 .fp8e4m3
  vs : Memref sig .tc .vmem Q1x1x20x128 .i8
  o : Memref sig .tc .vmem Q1x640x1792 .bf16
  ho : o.IsWhole
  kp : Memref sig .tc .vmem Q640x256 .bf16
  hkp : kp.IsWhole
  vt : Memref sig .tc .vmem Q128x640 .bf16
  hvt : vt.IsWhole
  sc : Memref sig .tc .vmem Q280x128 .i32
  pm : Memref sig .tc .vmem Q2x224x128 .f32
  fac : Memref sig .tc .vmem Q2x24x128 .f32
  ex : Memref sig .tc .vmem Q2x24x128 .i32

/-! ### The tiles -/

/-- The head of lane segment `s` of tile `i`. -/
def tileH (i : Fin 70) (s : Fin 4) : Fin 14 :=
  ⟨if i.val % 7 < 3 then 4 * (i.val % 7) + s.val else if i.val % 7 < 6 then 4 * (i.val % 7 - 3) + s.val else 12 + s.val % 2, by
    have := s.isLt; split_ifs <;> omega⟩

/-- The query block of lane segment `s` of tile `i`. -/
def tileC (i : Fin 70) (s : Fin 4) : Fin 20 :=
  ⟨if i.val % 7 < 3 then 2 * (i.val / 7) else if i.val % 7 < 6 then 2 * (i.val / 7) + 1 else 2 * (i.val / 7) + s.val / 2, by
    have := s.isLt; have := i.isLt; split_ifs <;> omega⟩

/-- One less than the number of key blocks of tile `i`. -/
def ntp (i : Fin 70) : ℕ := if i.val % 7 < 3 then 2 * (i.val / 7) else 2 * (i.val / 7) + 1

/-- The least query block of tile `i`. -/
def lo (i : Fin 70) : ℕ := if i.val % 7 < 3 then 2 * (i.val / 7) else if i.val % 7 < 6 then 2 * (i.val / 7) + 1 else 2 * (i.val / 7)

/-- The tiles of a pair. -/
def tileOf (i0 : Fin 35) (a : Fin 2) : Fin 70 := ⟨2 * i0.val + a.val, by omega⟩

theorem ntp_lt (i : Fin 70) : ntp i < 20 := by unfold ntp; have := i.isLt; split_ifs <;> omega

/-- The number of key blocks of a pair. -/
def nOf (i0 : Fin 35) : ℕ := ntp (tileOf i0 1) + 1

theorem nOf_le (i0 : Fin 35) : nOf i0 ≤ 20 := ntp_lt _

theorem ntp_le (i0 : Fin 35) (a : Fin 2) : ntp (tileOf i0 a) + 1 ≤ nOf i0 := by
  revert i0 a; decide

/-! ### Loops -/

section Loops
variable {E : Type → Type} {α : Type}

/-- The answers of `f 0`, `f 1`, … in order. -/
def collect : (n : ℕ) → (Fin n → Prog E α) → Prog E (Fin n → α)
  | 0, _ => pure Fin.elim0
  | n + 1, f => do
    let a ← f 0
    let r ← collect n fun i => f i.succ
    pure (Fin.cons a r)

/-- `f 0`, `f 1`, … in order. -/
def forN : (n : ℕ) → (Fin n → Prog E PUnit) → Prog E PUnit
  | 0, _ => pure ⟨⟩
  | n + 1, f => do
    f 0
    forN n fun i => f i.succ

/-- `f` at each of a list, in order. -/
def forL {ι : Type} (f : ι → Prog E PUnit) : List ι → Prog E PUnit
  | [] => pure ⟨⟩
  | a :: l => do
    f a
    forL f l

/-- `f 0 ∘ f 1 ∘ …` from the left. -/
def foldF {β : Type} (op : β → β → β) : (n : ℕ) → (Fin (n + 1) → β) → β
  | 0, f => f 0
  | n + 1, f => op (foldF op n fun i => f i.castSucc) (f (Fin.last _))

end Loops

section
variable {F : FTy → Type} [FloatOps F] {nD : ℕ} {τ : Topo} {sig : RefSig} {Λ : Labels}

/-! ### Values -/

def lane : IVec Q8x128 32 := iota .tc Q8x128 32 [1] (by decide)
def sub : IVec Q8x128 32 := iota .tc Q8x128 32 [0] (by decide)

def pow2w (x : IVec Q4x640 8) : IVec Q4x640 32 :=
  ori (shli (extui 32 x (by decide)) (broadcast Q4x640 23#32)) (shli (extui 32 x (by decide)) (broadcast Q4x640 7#32))

def rows16 (w : IVec Q1x128 32) : FVec F Q16x128 .bf16 :=
  bitcastToFloat .bf16 (bitcast Q16x128 16 (broadcastTo Q8x128 (shapeCast Q1x128 w (by decide)) (by decide)) (by decide))

def rows16' (w : IVec Q1x128 32) : FVec F Q16x128 .bf16 :=
  bitcastToFloat .bf16 (bitcast Q16x128 16 (broadcastTo Q8x128 w (by decide)) (by decide))

theorem c8 : Shape.Concatenates [Q16x128, Q16x128, Q16x128, Q16x128, Q16x128, Q16x128, Q16x128, Q16x128] Q128x128 0 := by decide
theorem c4 : Shape.Concatenates [Q32x128, Q32x128, Q32x128, Q32x128] Q128x128 0 := by decide
theorem c4s : Shape.Concatenates [Q8x128, Q8x128, Q8x128, Q8x128] Q32x128 0 := by decide
theorem c2w : Shape.Concatenates [Q16x128, Q16x128] Q32x128 0 := by decide
theorem c2q : Shape.Concatenates [Q128x128, Q128x128] Q128x256 1 := by decide
theorem c2qt : Shape.Concatenates [Q128x256, Q128x256] Q256x256 0 := by decide

def cat8 (r : Fin 4 → FVec F Q16x128 .bf16) : FVec F Q128x128 .bf16 :=
  concatenate Q128x128 0 [⟨Q16x128, r 0⟩, ⟨Q16x128, r 0⟩, ⟨Q16x128, r 1⟩, ⟨Q16x128, r 1⟩, ⟨Q16x128, r 2⟩, ⟨Q16x128, r 2⟩,
    ⟨Q16x128, r 3⟩, ⟨Q16x128, r 3⟩] c8

def cat4 {α : Type} (r : Fin 4 → Q32x128.Idx → α) : Q128x128.Idx → α :=
  concatenate Q128x128 0 [⟨Q32x128, r 0⟩, ⟨Q32x128, r 1⟩, ⟨Q32x128, r 2⟩, ⟨Q32x128, r 3⟩] c4

def cat4s {α : Type} (r : Fin 4 → Q8x128.Idx → α) : Q32x128.Idx → α :=
  concatenate Q32x128 0 [⟨Q8x128, r 0⟩, ⟨Q8x128, r 1⟩, ⟨Q8x128, r 2⟩, ⟨Q8x128, r 3⟩] c4s

def tr {α : Type} (x : Q128x128.Idx → α) : Q128x128.Idx → α := transpose Q128x128 [1, 0] x (by decide)

/-- The keys of 128 positions, decoded and scaled. -/
def kVal (lsc : F .f32) (w : IVec Q4x640 32) (t : Fin 5) (y : Vec F ⟨4, ![1, 1, 128, 128]⟩ .fp8e4m3) : FVec F Q128x128 .f32 :=
  mulf (extf .f32 (mulf (extf .bf16 (shapeCast Q128x128 y (by decide) : FVec F Q128x128 .fp8e4m3) (by decide))
      (tr (cat8 fun c => rows16 (extractStridedSlice Q1x128 ![c.val, 128 * t.val] w
        ⟨rfl, Fin.forall_fin_two.mpr ⟨by have := c.isLt; show c.val + 1 ≤ 4; omega, by have := t.isLt; show 128 * t.val + 128 ≤ 640; omega⟩⟩)))) (by decide))
    (broadcast Q128x128 lsc)

/-- The values of 32 positions, decoded. -/
def vVal (vs : FVec F Q20x128 .f32) (b : Fin 20) (y : Vec F ⟨4, ![1, 1, 32, 128]⟩ .fp8e4m3) : FVec F Q32x128 .f32 :=
  mulf (extf .f32 (shapeCast Q32x128 y (by decide) : FVec F Q32x128 .fp8e4m3) (by decide))
    (broadcastTo Q32x128 (extractStridedSlice Q1x128 ![b.val, 0] vs
      ⟨rfl, Fin.forall_fin_two.mpr ⟨by have := b.isLt; show b.val + 1 ≤ 20; omega, by show 0 + 128 ≤ 128; omega⟩⟩) (by decide))

/-- The scale words of segment `s` of tile `i`, moved to their lanes. -/
def scX (qsw : Fin 14 → IVec Q4x640 32) (i : Fin 70) (s : Fin 4) : IVec Q4x128 32 :=
  let x := extractStridedSlice Q4x128 ![0, 128 * ((tileC i s).val / 4)] (qsw (tileH i s))
    ⟨rfl, Fin.forall_fin_two.mpr ⟨by show 0 + 4 ≤ 4; omega, by have := (tileC i s).isLt; show 128 * ((tileC i s).val / 4) + 128 ≤ 640; omega⟩⟩
  if (32 * s.val + 128 - 32 * ((tileC i s).val % 4)) % 128 = 0 then x
  else dynamicRotate 1 (BitVec.ofNat 32 ((32 * s.val + 128 - 32 * ((tileC i s).val % 4)) % 128)) none x (by decide)

def scSel (s : Fin 4) (x acc : IVec Q4x128 32) : IVec Q4x128 32 :=
  select (cmpi .sge (extractStridedSlice Q4x128 ![0, 0] lane (by decide)) (broadcast Q4x128 (BitVec.ofNat 32 (32 * s.val)))) x acc

def scWord (qsw : Fin 14 → IVec Q4x640 32) (i : Fin 70) : IVec Q4x128 32 :=
  scSel 3 (scX qsw i 3) (scSel 2 (scX qsw i 2) (scSel 1 (scX qsw i 1) (scX qsw i 0)))

/-- `lane % 32`. -/
def laneMod : IVec Q8x128 32 :=
  let b : BitVec 1 := Scalar.cmpi .eq 32#32 0#32
  let n : BitVec 32 := Scalar.select b 1#32 32#32
  let r : IVec Q8x128 32 := remsi lane (broadcast Q8x128 n)
  select (andi (xori (cmpi .slt r (broadcast Q8x128 0#32)) (broadcastTo Q8x128 (broadcast Q8x128 (Scalar.cmpi .slt n 0#32)) (by decide)))
      (cmpi .ne r (broadcast Q8x128 0#32)))
    (addi r (broadcast Q8x128 n)) r

/-- `lane // 32`. -/
def laneDiv : IVec Q8x128 32 :=
  let d : IVec Q8x128 32 := divsi lane (broadcast Q8x128 32#32)
  let s : IVec Q8x128 32 := subi (extui 32 (cmpi .sgt lane (broadcast Q8x128 0#32)) (by decide)) (extui 32 (cmpi .slt lane (broadcast Q8x128 0#32)) (by decide))
  let s' : BitVec 32 := Scalar.subi (Scalar.extui (Scalar.cmpi .sgt 32#32 0#32)) (Scalar.extui (Scalar.cmpi .slt 32#32 0#32))
  select (andi (cmpi .ne s (broadcast Q8x128 s')) (cmpi .ne (remsi lane (broadcast Q8x128 32#32)) (broadcast Q8x128 0#32)))
    (subi d (broadcast Q8x128 1#32)) d

/-- `32 · (c - j)` as a word. -/
def offW (c j : ℕ) : BitVec 32 := BitVec.ofNat 32 (if j ≤ c then 32 * (c - j) else 4294967296 - 32 * (j - c))

def limSeg (i : Fin 70) (j : ℕ) (s : Fin 4) (l : IVec Q8x128 32) : IVec Q8x128 32 :=
  if (tileC i s).val = j then l
  else select (cmpi .eq laneDiv (broadcast Q8x128 (BitVec.ofNat 32 s.val))) (addi l (broadcast Q8x128 (offW (tileC i s).val j))) l

/-- The last key of block `j` that each lane of tile `i` sees, counted inside the block. -/
def lim (i : Fin 70) (j : ℕ) : IVec Q8x128 32 := limSeg i j 3 (limSeg i j 2 (limSeg i j 1 (limSeg i j 0 laneMod)))

/-- Eight rows of the scores of tile `a` of a pair, masked where block `j` needs it. -/
def blk {n : ℕ} (s : FVec F (Qn n 256) .f32) (a : Fin 2) (i : Fin 70) (j : ℕ) (hj : j < n) (u : Fin 4) : FVec F Q8x128 .f32 :=
  let x := extractStridedSlice Q8x128 ![32 * j + 8 * u.val, 128 * a.val] s
    ⟨rfl, Fin.forall_fin_two.mpr ⟨by have := u.isLt; show 32 * j + 8 * u.val + 8 ≤ 32 * n; omega, by have := a.isLt; show 128 * a.val + 128 ≤ 256; omega⟩⟩
  if lo i ≤ j then
    select (cmpi .sle (addi sub (broadcast Q8x128 (BitVec.ofNat 32 (8 * u.val)))) (lim i j)) x
      (broadcast Q8x128 (Scalar.ofBits .f32 0xFF800000#32))
  else x

def max4 (b : Fin 4 → FVec F Q8x128 .f32) : FVec F Q8x128 .f32 :=
  maximumf (maximumf (b 0) (b 1)) (maximumf (b 2) (b 3))

def add4 (b : Fin 4 → FVec F Q8x128 .f32) : FVec F Q8x128 .f32 :=
  addf (addf (b 0) (b 1)) (addf (b 2) (b 3))

def allSub (op : FVec F Q8x128 .f32 → FVec F Q8x128 .f32 → FVec F Q8x128 .f32) (x : FVec F Q8x128 .f32) : FVec F Q8x128 .f32 :=
  let x := op x (dynamicRotate 0 4#32 none x (by decide))
  let x := op x (dynamicRotate 0 2#32 none x (by decide))
  op x (dynamicRotate 0 1#32 none x (by decide))

/-- One halving step of the exponent field. -/
def efStep (s : ℕ) (p : FVec F Q8x128 .f32 × IVec Q8x128 32) : FVec F Q8x128 .f32 × IVec Q8x128 32 :=
  let c := cmpf .olt p.1 (broadcast Q8x128 (Scalar.ofBits .f32 (BitVec.ofNat 32 ((128 - s) * 8388608))))
  (select c (mulf p.1 (broadcast Q8x128 (Scalar.ofBits .f32 (BitVec.ofNat 32 ((127 + s) * 8388608))))) p.1,
    select c (subi p.2 (broadcast Q8x128 (BitVec.ofNat 32 s))) p.2)

/-- The biased exponent field. -/
def expField (x : FVec F Q8x128 .f32) : IVec Q8x128 32 :=
  (efStep 1 (efStep 2 (efStep 4 (efStep 8 (efStep 16 (efStep 32 (efStep 64 (x, broadcast Q8x128 127#32)))))))).2

def upW (eb : IVec Q8x128 32) : IVec Q8x128 32 :=
  select (cmpi .eq eb (broadcast Q8x128 0#32)) (broadcast Q8x128 127#32) (subi (broadcast Q8x128 253#32) eb)

def downW (eb : IVec Q8x128 32) : IVec Q8x128 32 :=
  select (cmpi .eq eb (broadcast Q8x128 0#32)) (broadcast Q8x128 127#32) (addi eb (broadcast Q8x128 1#32))

def facV (inv : FVec F Q8x128 .f32) (eb : IVec Q8x128 32) : FVec F Q8x128 .f32 :=
  mulf inv (bitcastToFloat .f32 (shli (upW eb) (broadcast Q8x128 23#32)))

def exW (eb : IVec Q8x128 32) : IVec Q8x128 32 :=
  ori (shli (downW eb) (broadcast Q8x128 23#32)) (shli (downW eb) (broadcast Q8x128 7#32))

def invV {n : ℕ} (e : Fin (n + 1) → Fin 4 → FVec F Q8x128 .f32) : FVec F Q8x128 .f32 :=
  divf (broadcast Q8x128 (Scalar.ofBits .f32 0x3F800000#32)) (allSub addf (foldF addf n fun j => add4 (e j)))

def ebV (bm m inv : FVec F Q8x128 .f32) : IVec Q8x128 32 :=
  expField (mulf (mulf (exp2 (subf bm m)) inv) (broadcast Q8x128 (Scalar.ofBits .f32 0x3B124925#32)))

/-- One block of codes times its scale. -/
def pVal (e : Fin 4 → FVec F Q8x128 .f32) (f : Vec F ⟨3, ![1, 1, 128]⟩ .f32) (w : Vec F ⟨3, ![1, 1, 128]⟩ .i32) : FVec F Q32x128 .bf16 :=
  let fr : FVec F Q8x128 .f32 := broadcastTo Q8x128 (shapeCast Q1x128 (shapeCast Q1x128 f (by decide) : FVec F Q1x128 .f32) (by decide) : FVec F Q1x128 .f32) (by decide)
  let wr : FVec F Q16x128 .bf16 := rows16 (shapeCast Q1x128 w (by decide))
  mulf (extf .bf16 (truncf .fp8e4m3 (cat4s fun u => mulf (e u) fr : FVec F Q32x128 .f32) (by decide)) (by decide))
    (concatenate Q32x128 0 [⟨Q16x128, wr⟩, ⟨Q16x128, wr⟩] c2w)

/-- The blocks of a tile below one another, then zeros. -/
def pList {nt : ℕ} (n : ℕ) (f : Fin nt → FVec F Q32x128 .bf16) : List ((s : Shape) × (s.Idx → F .bf16)) :=
  List.ofFn (fun j => (⟨Q32x128, f j⟩ : (s : Shape) × (s.Idx → F .bf16))) ++
    if nt < n then [⟨Qn (n - nt) 128, constant (Qn (n - nt) 128) .bf16 0x0000#16⟩] else []

theorem pList_concat {nt n : ℕ} (hn : 0 < nt) (h : nt ≤ n) (h2 : 2 ≤ n) (f : Fin nt → FVec F Q32x128 .bf16) :
    Shape.Concatenates ((pList n f).map (·.1)) (Qn n 128) 0 := by
  unfold pList
  refine ⟨?_, ?_, ?_⟩
  · split_ifs with h3 <;> simp <;> omega
  · intro s hs
    simp only [List.map_append, List.mem_append, List.map_ofFn, List.mem_ofFn] at hs
    rcases hs with ⟨j, rfl⟩ | hs
    · exact ⟨rfl, fun b hb => by fin_cases b; exact absurd rfl hb; rfl⟩
    · split_ifs at hs with h3
      · simp only [List.map_cons, List.map_nil, List.mem_singleton] at hs
        subst hs
        exact ⟨rfl, fun b hb => by fin_cases b; exact absurd rfl hb; rfl⟩
      · simp at hs
  · simp only [List.map_append, List.map_ofFn, List.sum_append, List.sum_ofFn]
    split_ifs with h3
    · simp [Qn]; omega
    · simp [Qn]; omega

def pCat {nt : ℕ} (n : ℕ) (hn : 0 < nt) (h : nt ≤ n) (f : Fin nt → FVec F Q32x128 .bf16) : FVec F (Qn n 128) .bf16 :=
  if h2 : 2 ≤ n then concatenate (Qn n 128) 0 (pList n f) (pList_concat hn h h2 f)
  else fun j => f ⟨0, hn⟩ fun a => ⟨(j a).val, by
    have hj := (j a).isLt; revert hj; obtain rfl : n = 1 := by omega
    revert a; exact Fin.forall_fin_two.mpr ⟨id, id⟩⟩

def pCat2 {n : ℕ} (p : Fin 2 → FVec F (Qn n 128) .bf16) : FVec F (Qn n 256) .bf16 :=
  concatenate (Qn n 256) 1 [⟨Qn n 128, p 0⟩, ⟨Qn n 128, p 1⟩]
    ⟨le_refl 2, by
      intro s hs; simp only [List.map_cons, List.map_nil, List.mem_cons, List.not_mem_nil, or_false, or_self] at hs; subst hs
      exact ⟨rfl, fun b hb => by fin_cases b; rfl; exact absurd rfl hb⟩, rfl⟩

def sVal {n : ℕ} (kp : FVec F (Qn n 256) .bf16) (q : Fin 2 → FVec F Q128x128 .bf16) : FVec F (Qn n 256) .f32 :=
  let qt : FVec F Q128x256 .bf16 := concatenate Q128x256 1 [⟨Q128x128, q 0⟩, ⟨Q128x128, q 1⟩] c2q
  matmul (DotDims.plain (32 * n) 256 256) none kp (concatenate Q256x256 0 [⟨Q128x256, qt⟩, ⟨Q128x256, qt⟩] c2qt : FVec F Q256x256 .bf16)
    (constant (Qn n 256) .f32 0x00000000#32)

def oVal {n : ℕ} (vt : FVec F ⟨2, ![128, 32 * n]⟩ .bf16) (p : FVec F (Qn n 256) .bf16) : FVec F Q128x256 .f32 :=
  matmul (DotDims.plain 128 (32 * n) 256) none vt p (constant Q128x256 .f32 0x00000000#32)

def oTile (ot : FVec F Q128x256 .f32) (a : Fin 2) : FVec F Q128x128 .bf16 :=
  tr (truncf .bf16 (extractStridedSlice Q128x128 ![0, 128 * a.val] ot
    ⟨rfl, Fin.forall_fin_two.mpr ⟨by show 0 + 128 ≤ 128; omega, by have := a.isLt; show 128 * a.val + 128 ≤ 256; omega⟩⟩ : FVec F Q128x128 .f32) (by decide))

def oSeg (o : FVec F Q128x128 .bf16) (s : Fin 4) : FVec F Q32x128 .bf16 :=
  extractStridedSlice Q32x128 ![32 * s.val, 0] o
    ⟨rfl, Fin.forall_fin_two.mpr ⟨by have := s.isLt; show 32 * s.val + 32 ≤ 128; omega, by show 0 + 128 ≤ 128; omega⟩⟩

/-! ### Memory -/

theorem one_le : 0 + 1 ≤ 1 := by decide
theorem le_128 : 0 + 128 ≤ 128 := by decide

theorem inb₄ {d off size : Fin 4 → Nat} (h0 : off 0 + size 0 ≤ d 0) (h1 : off 1 + size 1 ≤ d 1) (h2 : off 2 + size 2 ≤ d 2)
    (h3 : off 3 + size 3 ≤ d 3) : ∀ a, off a + size a ≤ (⟨4, d⟩ : Shape).size a :=
  Fin.forall_fin_succ.mpr ⟨h0, Fin.forall_fin_succ.mpr ⟨h1, Fin.forall_fin_two.mpr ⟨h2, h3⟩⟩⟩

theorem inb₃ {d off size : Fin 3 → Nat} (h0 : off 0 + size 0 ≤ d 0) (h1 : off 1 + size 1 ≤ d 1) (h2 : off 2 + size 2 ≤ d 2) :
    ∀ a, off a + size a ≤ (⟨3, d⟩ : Shape).size a := Fin.forall_fin_succ.mpr ⟨h0, Fin.forall_fin_two.mpr ⟨h1, h2⟩⟩

abbrev L4 (a b : ℕ) : Shape := ⟨4, ![1, 1, a, b]⟩
abbrev L3 (a b : ℕ) : Shape := ⟨3, ![1, a, b]⟩

theorem ne_L4a : 0 < (L4 128 128).numel := by decide
theorem ne_L4b : 0 < (L4 32 128).numel := by decide
theorem ne_L4c : 0 < (L4 4 640).numel := by decide
theorem ne_sq : 0 < Q128x128.numel := by decide
theorem ne_4 : 0 < Q4x128.numel := by decide
theorem ne_1 : 0 < Q1x128.numel := by decide
theorem ne_L3a : 0 < (L3 8 128).numel := by decide
theorem ne_L3b : 0 < (L3 1 128).numel := by decide
theorem ne_L3c : 0 < (L3 32 128).numel := by decide

variable (nD τ Λ F) in
/-- The programs of the body. -/
abbrev PM (sig : RefSig) (α : Type) : Type _ := Prog (TpuEff nD τ sig (Elt F) Λ .tc) α

def ld {s : Shape} {e : EltTy} (m : Memref sig .tc .vmem s e) (r : LoadRect s) (h : 0 < r.shape.numel) :
    PM F nD τ Λ sig (r.shape.Idx → Elt F e) := Prog.lift (.load m r (View.loadsAt_vmem h))

def put {s : Shape} {e : EltTy} (m : Memref sig .tc .vmem s e) (r : Rect s) (h : 0 < r.shape.numel)
    (hx : (m.access r).Stores Finset.univ) (w : r.shape.Idx → Elt F e) : PM F nD τ Λ sig PUnit :=
  Prog.lift (.load m r.toLoadRect (View.loadsAt_vmem h)) >>= fun _ => Prog.lift (.store m r w Finset.univ hx (.inl rfl))

abbrev kRect (t : Fin 5) (b : Fin 2) : Rect Q640x256 :=
  Rect.unit (s := Q640x256) ![128 * t.val, 128 * b.val] ![128, 128] (Rect.inb₂ (by have := t.isLt; show 128 * t.val + 128 ≤ 640; omega)
    (by have := b.isLt; show 128 * b.val + 128 ≤ 256; omega))

abbrev vRect (t : Fin 5) : Rect Q128x640 :=
  Rect.unit (s := Q128x640) ![0, 128 * t.val] ![128, 128] (Rect.inb₂ (by show 0 + 128 ≤ 128; omega)
    (by have := t.isLt; show 128 * t.val + 128 ≤ 640; omega))

abbrev scRect (i : Fin 70) : Rect Q280x128 :=
  Rect.unit (s := Q280x128) ![4 * i.val, 0] ![4, 128] (Rect.inb₂ (by have := i.isLt; show 4 * i.val + 4 ≤ 280; omega)
    (by show 0 + 128 ≤ 128; omega))

abbrev scRow (i : Fin 70) (c : Fin 4) : Rect Q280x128 :=
  Rect.unit (s := Q280x128) ![4 * i.val + c.val, 0] ![1, 128] (Rect.inb₂ (by have := i.isLt; have := c.isLt; show 4 * i.val + c.val + 1 ≤ 280; omega)
    (by show 0 + 128 ≤ 128; omega))

abbrev kLoad (t : Fin 5) : Rect Q1x1x640x128 :=
  Rect.unit (s := Q1x1x640x128) ![0, 0, 128 * t.val, 0] ![1, 1, 128, 128] (inb₄ one_le one_le
    (by have := t.isLt; show 128 * t.val + 128 ≤ 640; omega) le_128)

abbrev vLoad (b : Fin 20) : Rect Q1x1x640x128 :=
  Rect.unit (s := Q1x1x640x128) ![0, 0, 32 * b.val, 0] ![1, 1, 32, 128] (inb₄ one_le one_le
    (by have := b.isLt; show 32 * b.val + 32 ≤ 640; omega) le_128)

abbrev qLoad (h : Fin 14) (c : Fin 20) : Rect Q1x14x640x128 :=
  Rect.unit (s := Q1x14x640x128) ![0, h.val, 32 * c.val, 0] ![1, 1, 32, 128] (inb₄ one_le (by have := h.isLt; show h.val + 1 ≤ 14; omega)
    (by have := c.isLt; show 32 * c.val + 32 ≤ 640; omega) le_128)

abbrev qsLoad (h : Fin 14) : Rect Q1x14x4x640 :=
  Rect.unit (s := Q1x14x4x640) ![0, h.val, 0, 0] ![1, 1, 4, 640] (inb₄ one_le (by have := h.isLt; show h.val + 1 ≤ 14; omega)
    (le_refl 4) (le_refl 640))

abbrev kpLoad (n : ℕ) (h : n ≤ 20) : Rect Q640x256 :=
  Rect.unit (s := Q640x256) ![0, 0] ![32 * n, 256] (Rect.inb₂ (by show 0 + 32 * n ≤ 640; omega) (by show 0 + 256 ≤ 256; omega))

abbrev vtLoad (n : ℕ) (h : n ≤ 20) : Rect Q128x640 :=
  Rect.unit (s := Q128x640) ![0, 0] ![128, 32 * n] (Rect.inb₂ (by show 0 + 128 ≤ 128; omega) (by show 0 + 32 * n ≤ 640; omega))

abbrev pmRect (a : Fin 2) (j : Fin 20) : Rect Q2x224x128 :=
  Rect.unit (s := Q2x224x128) ![a.val, 9 * j.val, 0] ![1, 8, 128] (inb₃ (by have := a.isLt; show a.val + 1 ≤ 2; omega)
    (by have := j.isLt; show 9 * j.val + 8 ≤ 224; omega) (by show 0 + 128 ≤ 128; omega))

abbrev pmLoad (a : Fin 2) (g : Fin 3) (u : Fin 8) : LoadRect Q2x224x128 :=
  ⟨![a.val, 72 * g.val + u.val, 0], ![1, 8, 128], ![1, 9, 1], fun x => by
    revert x; refine Fin.forall_fin_succ.mpr ⟨?_, Fin.forall_fin_two.mpr ⟨?_, ?_⟩⟩
    · right; have := a.isLt; show a.val + 1 * 0 < 2; omega
    · right; have := g.isLt; have := u.isLt; show 72 * g.val + u.val + 9 * 7 < 224; omega
    · right; show 0 + 1 * 127 < 128; omega⟩

abbrev facRect (a : Fin 2) (g : Fin 3) : Rect Q2x24x128 :=
  Rect.unit (s := Q2x24x128) ![a.val, 8 * g.val, 0] ![1, 8, 128] (inb₃ (by have := a.isLt; show a.val + 1 ≤ 2; omega)
    (by have := g.isLt; show 8 * g.val + 8 ≤ 24; omega) (by show 0 + 128 ≤ 128; omega))

abbrev facRow (a : Fin 2) (j : Fin 20) : Rect Q2x24x128 :=
  Rect.unit (s := Q2x24x128) ![a.val, j.val, 0] ![1, 1, 128] (inb₃ (by have := a.isLt; show a.val + 1 ≤ 2; omega)
    (by have := j.isLt; show j.val + 1 ≤ 24; omega) (by show 0 + 128 ≤ 128; omega))

abbrev oRect (h : Fin 14) (c : Fin 20) : Rect Q1x640x1792 :=
  Rect.unit (s := Q1x640x1792) ![0, 32 * c.val, 128 * h.val] ![1, 32, 128] (inb₃ one_le
    (by have := c.isLt; show 32 * c.val + 32 ≤ 640; omega) (by have := h.isLt; show 128 * h.val + 128 ≤ 1792; omega))

theorem kRect_packed (t : Fin 5) (b : Fin 2) : (kRect t b).PackedRows (EltTy.packing .bf16) := by
  revert t b; decide
theorem vRect_packed (t : Fin 5) : (vRect t).PackedRows (EltTy.packing .bf16) := by
  revert t; decide
theorem oRect_packed (h : Fin 14) (c : Fin 20) : (oRect h c).PackedRows (EltTy.packing .bf16) := by
  revert h c; decide

variable (R : Refs sig)

def kStep (lsc : F .f32) (w : IVec Q4x640 32) (t : Fin 5) : PM F nD τ Λ sig PUnit := do
  let y : Vec F (L4 128 128) .fp8e4m3 ← ld R.k (kLoad t).toLoadRect ne_L4a
  let k := kVal lsc w t y
  let hi : FVec F Q128x128 .bf16 := truncf .bf16 k (by decide)
  put R.kp (kRect t 0) ne_sq (View.stores_vmem ne_sq (R.hkp.storeExact_slice rfl _ (kRect_packed t 0)) (fun _ => rfl))
    (shapeCast Q128x128 hi (by decide))
  put R.kp (kRect t 1) ne_sq (View.stores_vmem ne_sq (R.hkp.storeExact_slice rfl _ (kRect_packed t 1)) (fun _ => rfl))
    (shapeCast Q128x128 (truncf .bf16 (subf k (extf .f32 hi (by decide))) (by decide) : FVec F Q128x128 .bf16) (by decide))

def vIx (t : Fin 5) (i : Fin 4) : Fin 20 := ⟨4 * t.val + i.val, by omega⟩

def vStep (vs : FVec F Q20x128 .f32) (t : Fin 5) : PM F nD τ Λ sig PUnit := do
  let x ← collect 4 fun i => do
    let y : Vec F (L4 32 128) .fp8e4m3 ← ld R.v (vLoad (vIx t i)).toLoadRect ne_L4b
    pure (vVal vs (vIx t i) y)
  put R.vt (vRect t) ne_sq (View.stores_vmem ne_sq (R.hvt.storeExact_slice rfl _ (vRect_packed t)) (fun _ => rfl))
    (shapeCast Q128x128 (tr (truncf .bf16 (cat4 x : FVec F Q128x128 .f32) (by decide) : FVec F Q128x128 .bf16)) (by decide))

def scStep (qsw : Fin 14 → IVec Q4x640 32) (i : Fin 70) : PM F nD τ Λ sig PUnit :=
  put R.sc (scRect i) ne_4 (View.stores_vmem_bits_univ ne_4 rfl) (shapeCast Q4x128 (scWord qsw i) (by decide))

def qTile (i : Fin 70) : PM F nD τ Λ sig (FVec F Q128x128 .bf16) := do
  let q ← collect 4 fun s => do
    let y : Vec F (L4 32 128) .fp8e4m3 ← ld R.q (qLoad (tileH i s) (tileC i s)).toLoadRect ne_L4b
    pure (shapeCast Q32x128 y (by decide) : FVec F Q32x128 .fp8e4m3)
  let r ← collect 4 fun c => do
    let y : Vec F Q1x128 .i32 ← ld R.sc (scRow i c).toLoadRect ne_1
    pure (rows16 y : FVec F Q16x128 .bf16)
  pure (mulf (tr (extf .bf16 (cat4 q : FVec F Q128x128 .fp8e4m3) (by decide))) (cat8 r))

def Jx {i : Fin 70} (j : Fin (ntp i + 1)) : Fin 20 := ⟨j.val, lt_of_lt_of_le j.isLt (ntp_lt i)⟩
def Gx {i : Fin 70} (g : Fin (ntp i / 8 + 1)) : Fin 3 := ⟨g.val, by have := g.isLt; have := ntp_lt i; omega⟩

/-- The largest score of each key block of group `g`, one block to a row. -/
def bmStep (a : Fin 2) (i : Fin 70) (g : Fin (ntp i / 8 + 1)) : PM F nD τ Λ sig (FVec F Q8x128 .f32) := do
  let x ← collect 8 fun u => do
    let y : Vec F (L3 8 128) .f32 ← ld R.pm (pmLoad a (Gx g) u) ne_L3a
    pure (shapeCast Q8x128 y (by decide) : FVec F Q8x128 .f32)
  let x := foldF maximumf 7 x
  pure (if ntp i + 1 - 8 * g.val < 8 then
    select (cmpi .slt sub (broadcast Q8x128 (BitVec.ofNat 32 (ntp i + 1 - 8 * g.val)))) x (broadcast Q8x128 (Scalar.ofBits .f32 0xFF800000#32))
    else x)

/-- The probabilities of tile `a` of a pair. -/
def pTile {n : ℕ} (s : FVec F (Qn n 256) .f32) (a : Fin 2) (i : Fin 70) (h : ntp i + 1 ≤ n) : PM F nD τ Λ sig (FVec F (Qn n 128) .bf16) := do
  let b : Fin (ntp i + 1) → Fin 4 → FVec F Q8x128 .f32 := fun j => blk s a i j.val (lt_of_lt_of_le j.isLt h)
  forN (ntp i + 1) fun j => put R.pm (pmRect a (Jx j)) ne_L3a
    (View.stores_vmem_bits_univ ne_L3a rfl)
    (shapeCast ⟨3, ![1, 8, 128]⟩ (max4 (b j)) (by decide))
  let bm ← collect (ntp i / 8 + 1) fun g => bmStep R a i g
  let m := allSub maximumf (foldF maximumf (ntp i / 8) bm)
  let e : Fin (ntp i + 1) → Fin 4 → FVec F Q8x128 .f32 := fun j u => exp2 (subf (b j u) m)
  let inv := invV e
  forN (ntp i / 8 + 1) fun g => do
    let eb := ebV (bm g) m inv
    put R.fac (facRect a (Gx g)) ne_L3a (View.stores_vmem_bits_univ ne_L3a rfl)
      (shapeCast ⟨3, ![1, 8, 128]⟩ (facV inv eb) (by decide))
    put R.ex (facRect a (Gx g)) ne_L3a (View.stores_vmem_bits_univ ne_L3a rfl)
      (shapeCast ⟨3, ![1, 8, 128]⟩ (exW eb) (by decide))
  let p ← collect (ntp i + 1) fun j => do
    let f : Vec F (L3 1 128) .f32 ← ld R.fac (facRow a (Jx j)).toLoadRect ne_L3b
    let w : Vec F (L3 1 128) .i32 ← ld R.ex (facRow a (Jx j)).toLoadRect ne_L3b
    pure (pVal (e j) f w)
  pure (pCat n (Nat.succ_pos _) h p)

def oStep (o : FVec F Q128x128 .bf16) (i : Fin 70) (s : Fin 4) : PM F nD τ Λ sig PUnit :=
  put R.o (oRect (tileH i s) (tileC i s)) ne_L3c
    (View.stores_vmem ne_L3c (R.ho.storeExact_slice rfl _ (oRect_packed (tileH i s) (tileC i s))) (fun _ => rfl))
    (shapeCast ⟨3, ![1, 32, 128]⟩ (oSeg o s) (by decide))

theorem nOf_pos (i0 : Fin 35) : 0 < nOf i0 := Nat.succ_pos _

theorem kpLoad_pos (i0 : Fin 35) : 0 < (kpLoad (nOf i0) (nOf_le i0)).toLoadRect.shape.numel := by
  revert i0; decide
theorem vtLoad_pos (i0 : Fin 35) : 0 < (vtLoad (nOf i0) (nOf_le i0)).toLoadRect.shape.numel := by
  revert i0; decide

/-- One pair of tiles. -/
def pairStep (i0 : Fin 35) : PM F nD τ Λ sig PUnit := do
  let q ← collect 2 fun a => qTile R (tileOf i0 a)
  let kp : FVec F (Qn (nOf i0) 256) .bf16 ← ld R.kp (kpLoad (nOf i0) (nOf_le i0)).toLoadRect (kpLoad_pos i0)
  let s : FVec F (Qn (nOf i0) 256) .f32 := sVal kp q
  let p ← collect 2 fun a => pTile R s a (tileOf i0 a) (ntp_le i0 a)
  let vt : FVec F ⟨2, ![128, 32 * nOf i0]⟩ .bf16 ← ld R.vt (vtLoad (nOf i0) (nOf_le i0)).toLoadRect (vtLoad_pos i0)
  let ot := oVal vt (pCat2 p)
  forN 2 fun a => forN 4 fun s => oStep R (oTile ot a) (tileOf i0 a) s

def setup (lsc : F .f32) : PM F nD τ Λ sig PUnit := do
  let y ← ld R.ks (Rect.unit (s := Q1x1x4x640) ![0, 0, 0, 0] ![1, 1, 4, 640] (by decide)).toLoadRect (by decide)
  let w := pow2w (shapeCast Q4x640 y (by decide))
  forN 5 fun t => kStep R lsc w t
  let y ← ld R.vs (Rect.unit (s := Q1x1x20x128) ![0, 0, 0, 0] ![1, 1, 20, 128] (by decide)).toLoadRect (by decide)
  let vs : FVec F Q20x128 .f32 := bitcastToFloat .f32 (shli (extui 32 (shapeCast Q20x128 y (by decide) : IVec Q20x128 8) (by decide)) (broadcast Q20x128 23#32))
  forN 5 fun t => vStep R vs t
  let qsw ← collect 14 fun h => do
    let y : Vec F (L4 4 640) .i8 ← ld R.qs (qsLoad h).toLoadRect ne_L4c
    pure (pow2w (shapeCast Q4x640 y (by decide)))
  forN 70 fun i => scStep R qsw i

/-- The whole body over a list of pairs. -/
def body (lsc : F .f32) (pairs : List (Fin 35)) : PM F nD τ Λ sig PUnit := do
  setup R lsc
  forL (fun i0 => pairStep R i0) pairs

end

/-- All pairs of tiles, in the kernel's order. -/
abbrev pairs : List (Fin 35) :=
  [0, 1, 2, 3, 4, 5, 6, 7, 8, 9, 10, 11, 12, 13, 14, 15, 16, 17, 18, 19, 20, 21, 22, 23, 24, 25, 26, 27, 28, 29, 30, 31, 32, 33, 34]

end Proof01k
-- ==== Proof.TieKernel.lean ====
/- The printed body of `Kernel` is the looped body. -/
module

public import proofs.«01_k».proof.Kernel
public import Idealize.ShloMosaic.Lib.Tactic
public import proofs.«01_k».proof.Proof.Model

@[expose] public section

namespace Proof01k

open Idealize.ShloMosaic Idealize.SL.Sem

open Cert.Kernel in
theorem tie_Kernel {F : FTy → Type} [FloatOps F] [Facts]
    (i) (arg2) (h2) (arg3) (h3) (arg4) (h4) (arg5) (h5) (arg6) (h6) (arg7) (h7) (arg8) (h8) (arg9) (h9) (arg10) (h10)
    (arg11) (h11) (arg12) (h12) (arg13) (h13) (arg14) (h14) :
    cc0_mx_attn (F := F) i arg2 h2 arg3 h3 arg4 h4 arg5 h5 arg6 h6 arg7 h7 arg8 h8 arg9 h9 arg10 h10 arg11 h11 arg12 h12 arg13 h13 arg14 h14
      = body (F := F) (Λ := Λ₀) (nD := nD) (τ := τ) ⟨arg2, arg3, arg4, arg5, arg6, arg7, arg8, h8, arg9, h9, arg10, h10, arg11, arg12, arg13, arg14⟩
          (Scalar.ofBits .f32 0x3E0293EE#32) pairs := by
  sl_kernel_rfl

end Proof01k
-- ==== Proof.Triple.lean ====
/-
Triples over the body's buffers: what a program of the model leaves in them, said of the contents alone.
-/
module

public import Idealize.ShloMosaic.Lib.ReshapeSlab
public import Idealize.ShloMosaic.Lib.Pipeline.FrameBody
public import Idealize.ShloMosaic.Lib.Tactic
public import proofs.«01_k».proof.Proof.Model

@[expose] public section

noncomputable section

namespace Proof01k

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : ℕ} {τ : Topo} {sig : RefSig} {Λ : Labels}

local notation "𝕄" => MT nD τ sig Unit (Elt F) ℕ (UR sig nD τ) ℕ

variable (F) in
/-- What the input blocks hold. -/
structure Ins where
  q : Q1x14x640x128.Idx → Elt F .fp8e4m3
  qs : Q1x14x4x640.Idx → Elt F .i8
  k : Q1x1x640x128.Idx → Elt F .fp8e4m3
  ks : Q1x1x4x640.Idx → Elt F .i8
  v : Q1x1x640x128.Idx → Elt F .fp8e4m3
  vs : Q1x1x20x128.Idx → Elt F .i8

variable (F) in
/-- What the output block and the scratch buffers hold. -/
structure St where
  o : Q1x640x1792.Idx → Elt F .bf16
  kp : Q640x256.Idx → Elt F .bf16
  vt : Q128x640.Idx → Elt F .bf16
  sc : Q280x128.Idx → Elt F .i32
  pm : Q2x224x128.Idx → Elt F .f32
  fac : Q2x24x128.Idx → Elt F .f32
  ex : Q2x24x128.Idx → Elt F .i32

variable (defs : Defs nD τ sig (Elt F) Λ) (𝒱 : Variants) (c : Dev nD) (R : Refs sig) (x : Ins F)

/-- The body's buffers at given contents. -/
def Own (σ : St F) : sProp 𝕄 :=
  iprop(owns (c : Thread nD τ) R.q fullShare x.q ∗ owns (c : Thread nD τ) R.qs fullShare x.qs ∗ owns (c : Thread nD τ) R.k fullShare x.k
    ∗ owns (c : Thread nD τ) R.ks fullShare x.ks ∗ owns (c : Thread nD τ) R.v fullShare x.v ∗ owns (c : Thread nD τ) R.vs fullShare x.vs
    ∗ owns (c : Thread nD τ) R.o fullShare σ.o ∗ owns (c : Thread nD τ) R.kp fullShare σ.kp ∗ owns (c : Thread nD τ) R.vt fullShare σ.vt
    ∗ owns (c : Thread nD τ) R.sc fullShare σ.sc ∗ owns (c : Thread nD τ) R.pm fullShare σ.pm ∗ owns (c : Thread nD τ) R.fac fullShare σ.fac
    ∗ owns (c : Thread nD τ) R.ex fullShare σ.ex)

variable {α β : Type}

/-- From the buffers at `σ` the program runs to an answer and contents of which `Q` holds. -/
def Tr (p : PM F nD τ Λ sig α) (σ : St F) (Q : α → St F → Prop) : Prop :=
  ∀ E : Set ℕ, Own c R x σ ⊢ wp frame (wpE defs 𝒱 (c : Thread nD τ) none) E p (fun a => (iprop(∃ σ', ⌜Q a σ'⌝ ∗ Own c R x σ') : sProp 𝕄))

variable {defs 𝒱 c R x}

theorem Tr_pure {a : α} {σ : St F} {Q : α → St F → Prop} (h : Q a σ) : Tr defs 𝒱 c R x (pure a) σ Q := fun E => by
  refine BIBase.Entails.trans ?_ (le_wp_ret _ _ _ _ _)
  iintro H
  iexists σ
  isplitr
  · ipureintro; exact h
  iexact H

theorem Tr_mono {p : PM F nD τ Λ sig α} {σ : St F} {Q Q' : α → St F → Prop} (h : Tr defs 𝒱 c R x p σ Q) (hQ : ∀ a σ', Q a σ' → Q' a σ') :
    Tr defs 𝒱 c R x p σ Q' := fun E => by
  refine (h E).trans (wp_mono _ _ _ fun a => ?_)
  iintro ⟨%σ', %hq, H⟩
  iexists σ'
  isplitr
  · ipureintro; exact hQ _ _ hq
  iexact H

theorem Tr_bind {p : PM F nD τ Λ sig α} {k : α → PM F nD τ Λ sig β} {σ : St F} {Q : α → St F → Prop} {Q' : β → St F → Prop}
    (h : Tr defs 𝒱 c R x p σ Q) (hk : ∀ a σ', Q a σ' → Tr defs 𝒱 c R x (k a) σ' Q') : Tr defs 𝒱 c R x (p >>= k) σ Q' := fun E => by
  rw [wp_bind]
  refine (h E).trans (wp_mono _ _ _ fun a => ?_)
  iintro ⟨%σ', %hq, H⟩
  iapply (hk a σ' hq E)
  iexact H

/-- The contents after a store of `w` through `r` over `X`. -/
def Upd {s : Shape} {e : EltTy} (r : Rect s) (w : r.shape.Idx → Elt F e) (X X' : s.Idx → Elt F e) : Prop :=
  (∀ i, X' (r.emb i) = w i) ∧ ∀ j, j ∉ r.set → X' j = X j

/-- The buffers' assertion taken apart at a buffer that is only read. -/
def Rd {s : Shape} {e : EltTy} (c : Dev nD) (R : Refs sig) (x : Ins F) (m : Memref sig .tc .vmem s e) (σ : St F) (X : s.Idx → Elt F e) : Prop :=
  (Own c R x σ : sProp 𝕄) ⊢ iprop(owns (c : Thread nD τ) m fullShare X ∗ (owns (c : Thread nD τ) m fullShare X -∗ Own c R x σ))

theorem Tr_ld {s : Shape} {e : EltTy} {m : Memref sig .tc .vmem s e} {r : LoadRect s} {h : 0 < r.shape.numel} {σ : St F} {X : s.Idx → Elt F e}
    (hR : Rd (τ := τ) c R x m σ X) {Q : (r.shape.Idx → Elt F e) → St F → Prop} (hQ : Q (fun i => X (r.idx i)) σ) :
    Tr defs 𝒱 c R x (ld m r h) σ Q := fun E => by
  refine BIBase.Entails.trans hR ?_
  unfold ld Prog.lift owns
  iintro ⟨⟨%f, %hf, H⟩, Hc⟩
  iapply (wp_load 𝒱 (c : Thread nD τ) none E (S := m.view.set) (f := f) (View.setOn_subset_set _ _)) $$ H
  iintro H
  iapply (le_wp_ret _ _ _ _ _)
  iexists σ
  isplitr
  · ipureintro
    subst hf
    exact hQ
  iapply Hc
  iexists f
  isplitr
  · ipureintro; exact hf
  iexact H

theorem Tr_put {s : Shape} {e : EltTy} {m : Memref sig .tc .vmem s e} {r : Rect s} {h : 0 < r.shape.numel}
    {hx : (m.access r).Stores Finset.univ} {w : r.shape.Idx → Elt F e} {σ : St F} {X : s.Idx → Elt F e} (upd : (s.Idx → Elt F e) → St F)
    (hR : (Own c R x σ : sProp 𝕄) ⊢ iprop(owns (c : Thread nD τ) m fullShare X ∗ (∀ X', owns (c : Thread nD τ) m fullShare X' -∗ Own c R x (upd X'))))
    {Q : PUnit → St F → Prop} (hQ : ∀ X', Upd r w X X' → Q ⟨⟩ (upd X')) :
    Tr defs 𝒱 c R x (put m r h hx w) σ Q := fun E => by
  refine BIBase.Entails.trans hR ?_
  unfold put Prog.lift owns
  simp only [Prog.bind_op, Prog.bind_ret]
  iintro ⟨⟨%f, %hf, H⟩, Hc⟩
  iapply (wp_load 𝒱 (c : Thread nD τ) none E (S := m.view.set) (f := f) (View.setOn_subset_set _ _)) $$ H
  iintro H
  iapply (wp_store 𝒱 (c : Thread nD τ) none E (m := m) (r := r) (w := w) (hx := hx) (S := m.view.set) (f := f) (Memref.setOn_access_subset m r _)) $$ H
  iintro H
  iapply (le_wp_ret _ _ _ _ _)
  iexists (upd (m.view.read (Elt F) ((m.access r).write (Elt F) f w Finset.univ)))
  isplitr
  · ipureintro
    subst hf
    exact hQ _ ⟨fun i => View.read_slice_write_emb r _ _ (Finset.mem_univ i), fun j hj =>
      View.read_slice_write_of_not_mem r _ _ _ (by rwa [Rect.map_emb_univ])⟩
  iapply Hc
  iexists _
  isplitr
  · ipureintro; rfl
  iexact H

/-! ### The buffers one by one -/

section Access
variable {σ : St F}

theorem rd_q : Rd (τ := τ) c R x R.q σ x.q := by
  unfold Rd Own
  iintro ⟨Hq, Hqs, Hk, Hks, Hv, Hvs, Ho, Hkp, Hvt, Hsc, Hpm, Hfac, Hex⟩
  isplitl [Hq]; · iexact Hq
  iintro Hq
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_qs : Rd (τ := τ) c R x R.qs σ x.qs := by
  unfold Rd Own
  iintro ⟨Hq, Hqs, Hk, Hks, Hv, Hvs, Ho, Hkp, Hvt, Hsc, Hpm, Hfac, Hex⟩
  isplitl [Hqs]; · iexact Hqs
  iintro Hqs
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_k : Rd (τ := τ) c R x R.k σ x.k := by
  unfold Rd Own
  iintro ⟨Hq, Hqs, Hk, Hks, Hv, Hvs, Ho, Hkp, Hvt, Hsc, Hpm, Hfac, Hex⟩
  isplitl [Hk]; · iexact Hk
  iintro Hk
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_ks : Rd (τ := τ) c R x R.ks σ x.ks := by
  unfold Rd Own
  iintro ⟨Hq, Hqs, Hk, Hks, Hv, Hvs, Ho, Hkp, Hvt, Hsc, Hpm, Hfac, Hex⟩
  isplitl [Hks]; · iexact Hks
  iintro Hks
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_v : Rd (τ := τ) c R x R.v σ x.v := by
  unfold Rd Own
  iintro ⟨Hq, Hqs, Hk, Hks, Hv, Hvs, Ho, Hkp, Hvt, Hsc, Hpm, Hfac, Hex⟩
  isplitl [Hv]; · iexact Hv
  iintro Hv
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_vs : Rd (τ := τ) c R x R.vs σ x.vs := by
  unfold Rd Own
  iintro ⟨Hq, Hqs, Hk, Hks, Hv, Hvs, Ho, Hkp, Hvt, Hsc, Hpm, Hfac, Hex⟩
  isplitl [Hvs]; · iexact Hvs
  iintro Hvs
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_o : Rd (τ := τ) c R x R.o σ σ.o := by
  unfold Rd Own
  iintro ⟨Hq, Hqs, Hk, Hks, Hv, Hvs, Ho, Hkp, Hvt, Hsc, Hpm, Hfac, Hex⟩
  isplitl [Ho]; · iexact Ho
  iintro Ho
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_kp : Rd (τ := τ) c R x R.kp σ σ.kp := by
  unfold Rd Own
  iintro ⟨Hq, Hqs, Hk, Hks, Hv, Hvs, Ho, Hkp, Hvt, Hsc, Hpm, Hfac, Hex⟩
  isplitl [Hkp]; · iexact Hkp
  iintro Hkp
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_vt : Rd (τ := τ) c R x R.vt σ σ.vt := by
  unfold Rd Own
  iintro ⟨Hq, Hqs, Hk, Hks, Hv, Hvs, Ho, Hkp, Hvt, Hsc, Hpm, Hfac, Hex⟩
  isplitl [Hvt]; · iexact Hvt
  iintro Hvt
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_sc : Rd (τ := τ) c R x R.sc σ σ.sc := by
  unfold Rd Own
  iintro ⟨Hq, Hqs, Hk, Hks, Hv, Hvs, Ho, Hkp, Hvt, Hsc, Hpm, Hfac, Hex⟩
  isplitl [Hsc]; · iexact Hsc
  iintro Hsc
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_pm : Rd (τ := τ) c R x R.pm σ σ.pm := by
  unfold Rd Own
  iintro ⟨Hq, Hqs, Hk, Hks, Hv, Hvs, Ho, Hkp, Hvt, Hsc, Hpm, Hfac, Hex⟩
  isplitl [Hpm]; · iexact Hpm
  iintro Hpm
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_fac : Rd (τ := τ) c R x R.fac σ σ.fac := by
  unfold Rd Own
  iintro ⟨Hq, Hqs, Hk, Hks, Hv, Hvs, Ho, Hkp, Hvt, Hsc, Hpm, Hfac, Hex⟩
  isplitl [Hfac]; · iexact Hfac
  iintro Hfac
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem rd_ex : Rd (τ := τ) c R x R.ex σ σ.ex := by
  unfold Rd Own
  iintro ⟨Hq, Hqs, Hk, Hks, Hv, Hvs, Ho, Hkp, Hvt, Hsc, Hpm, Hfac, Hex⟩
  isplitl [Hex]; · iexact Hex
  iintro Hex
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem wr_o : (Own c R x σ : sProp 𝕄) ⊢ iprop(owns (c : Thread nD τ) R.o fullShare σ.o
    ∗ (∀ X', owns (c : Thread nD τ) R.o fullShare X' -∗ Own c R x { σ with o := X' })) := by
  unfold Own
  iintro ⟨Hq, Hqs, Hk, Hks, Hv, Hvs, Ho, Hkp, Hvt, Hsc, Hpm, Hfac, Hex⟩
  isplitl [Ho]; · iexact Ho
  iintro %X' Ho
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem wr_kp : (Own c R x σ : sProp 𝕄) ⊢ iprop(owns (c : Thread nD τ) R.kp fullShare σ.kp
    ∗ (∀ X', owns (c : Thread nD τ) R.kp fullShare X' -∗ Own c R x { σ with kp := X' })) := by
  unfold Own
  iintro ⟨Hq, Hqs, Hk, Hks, Hv, Hvs, Ho, Hkp, Hvt, Hsc, Hpm, Hfac, Hex⟩
  isplitl [Hkp]; · iexact Hkp
  iintro %X' Hkp
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem wr_vt : (Own c R x σ : sProp 𝕄) ⊢ iprop(owns (c : Thread nD τ) R.vt fullShare σ.vt
    ∗ (∀ X', owns (c : Thread nD τ) R.vt fullShare X' -∗ Own c R x { σ with vt := X' })) := by
  unfold Own
  iintro ⟨Hq, Hqs, Hk, Hks, Hv, Hvs, Ho, Hkp, Hvt, Hsc, Hpm, Hfac, Hex⟩
  isplitl [Hvt]; · iexact Hvt
  iintro %X' Hvt
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem wr_sc : (Own c R x σ : sProp 𝕄) ⊢ iprop(owns (c : Thread nD τ) R.sc fullShare σ.sc
    ∗ (∀ X', owns (c : Thread nD τ) R.sc fullShare X' -∗ Own c R x { σ with sc := X' })) := by
  unfold Own
  iintro ⟨Hq, Hqs, Hk, Hks, Hv, Hvs, Ho, Hkp, Hvt, Hsc, Hpm, Hfac, Hex⟩
  isplitl [Hsc]; · iexact Hsc
  iintro %X' Hsc
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem wr_pm : (Own c R x σ : sProp 𝕄) ⊢ iprop(owns (c : Thread nD τ) R.pm fullShare σ.pm
    ∗ (∀ X', owns (c : Thread nD τ) R.pm fullShare X' -∗ Own c R x { σ with pm := X' })) := by
  unfold Own
  iintro ⟨Hq, Hqs, Hk, Hks, Hv, Hvs, Ho, Hkp, Hvt, Hsc, Hpm, Hfac, Hex⟩
  isplitl [Hpm]; · iexact Hpm
  iintro %X' Hpm
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem wr_fac : (Own c R x σ : sProp 𝕄) ⊢ iprop(owns (c : Thread nD τ) R.fac fullShare σ.fac
    ∗ (∀ X', owns (c : Thread nD τ) R.fac fullShare X' -∗ Own c R x { σ with fac := X' })) := by
  unfold Own
  iintro ⟨Hq, Hqs, Hk, Hks, Hv, Hvs, Ho, Hkp, Hvt, Hsc, Hpm, Hfac, Hex⟩
  isplitl [Hfac]; · iexact Hfac
  iintro %X' Hfac
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

theorem wr_ex : (Own c R x σ : sProp 𝕄) ⊢ iprop(owns (c : Thread nD τ) R.ex fullShare σ.ex
    ∗ (∀ X', owns (c : Thread nD τ) R.ex fullShare X' -∗ Own c R x { σ with ex := X' })) := by
  unfold Own
  iintro ⟨Hq, Hqs, Hk, Hks, Hv, Hvs, Ho, Hkp, Hvt, Hsc, Hpm, Hfac, Hex⟩
  isplitl [Hex]; · iexact Hex
  iintro %X' Hex
  isplitl [Hq]; · iexact Hq
  isplitl [Hqs]; · iexact Hqs
  isplitl [Hk]; · iexact Hk
  isplitl [Hks]; · iexact Hks
  isplitl [Hv]; · iexact Hv
  isplitl [Hvs]; · iexact Hvs
  isplitl [Ho]; · iexact Ho
  isplitl [Hkp]; · iexact Hkp
  isplitl [Hvt]; · iexact Hvt
  isplitl [Hsc]; · iexact Hsc
  isplitl [Hpm]; · iexact Hpm
  isplitl [Hfac]; · iexact Hfac
  iexact Hex

end Access

/-! ### Loops -/

theorem Tr_collect {n : ℕ} {f : Fin n → PM F nD τ Λ sig α} {σ : St F} {P : Fin n → α → Prop} (I : St F → Prop) (h0 : I σ)
    (hf : ∀ i σ', I σ' → Tr defs 𝒱 c R x (f i) σ' fun a σ'' => P i a ∧ I σ'') :
    Tr defs 𝒱 c R x (collect n f) σ fun a σ' => (∀ i, P i (a i)) ∧ I σ' := by
  induction n generalizing σ with
  | zero => exact Tr_pure ⟨fun i => i.elim0, h0⟩
  | succ n ih =>
    refine Tr_bind (hf 0 σ h0) fun a σ' ⟨ha, hI⟩ => ?_
    refine Tr_bind (ih (P := fun i => P i.succ) hI fun i σ'' h => hf i.succ σ'' h) fun r σ'' ⟨hr, hI'⟩ => ?_
    exact Tr_pure ⟨fun i => Fin.cases ha hr i, hI'⟩

theorem Tr_forN {n : ℕ} {f : Fin n → PM F nD τ Λ sig PUnit} {σ : St F} (I : ℕ → St F → Prop) (h0 : I 0 σ)
    (hf : ∀ (i : Fin n) σ', I i.val σ' → Tr defs 𝒱 c R x (f i) σ' fun _ σ'' => I (i.val + 1) σ'') :
    Tr defs 𝒱 c R x (forN n f) σ fun _ σ' => I n σ' := by
  induction n generalizing σ I with
  | zero => exact Tr_pure h0
  | succ n ih =>
    refine Tr_bind (hf 0 σ h0) fun _ σ' hI => ?_
    exact ih (fun k => I (k + 1)) hI fun i σ'' h => hf i.succ σ'' h

theorem Tr_forL {ι : Type} {f : ι → PM F nD τ Λ sig PUnit} (I : List ι → St F → Prop)
    (hf : ∀ i l σ', I (i :: l) σ' → Tr defs 𝒱 c R x (f i) σ' fun _ σ'' => I l σ'') :
    ∀ (l : List ι) (σ : St F), I l σ → Tr defs 𝒱 c R x (forL f l) σ fun _ σ' => I [] σ'
  | [], _, h => Tr_pure h
  | i :: l, σ, h => Tr_bind (hf i l σ h) fun _ σ' hI => Tr_forL I hf l σ' hI

/-- A triple as a step of a larger proof. -/
theorem Tr_run {p : PM F nD τ Λ sig α} {σ : St F} {Q : α → St F → Prop} (h : Tr defs 𝒱 c R x p σ Q) {E : Set ℕ} {K : α → sProp 𝕄} :
    iprop(Own c R x σ ∗ (∀ a σ', ⌜Q a σ'⌝ -∗ Own c R x σ' -∗ K a)) ⊢ wp frame (wpE defs 𝒱 (c : Thread nD τ) none) E p K := by
  refine BIBase.Entails.trans (sep_mono (h E) (BIBase.Entails.of_eq rfl)) ?_
  iintro ⟨H, Hk⟩
  iapply (wp_wand_r frame (wpE defs 𝒱 (c : Thread nD τ) none) E)
  isplitl [H]; · iexact H
  iintro %a ⟨%σ', %hq, Ho⟩
  iapply Hk $$ %a %σ' %hq
  iexact Ho

end Proof01k

end
-- ==== Proof.Safe.lean ====
/-
The body of the kernel runs from any contents of its buffers, whatever the floats are.
-/
module

public import proofs.«01_k».proof.Proof.Triple

@[expose] public section

noncomputable section

namespace Proof01k

open Idealize.ShloMosaic Idealize.ShloMosaic.TcCoe Idealize.SL.Sem

variable {F : FTy → Type} [FloatOps F] {nD : ℕ} {τ : Topo} {sig : RefSig} {Λ : Labels}
variable {defs : Defs nD τ sig (Elt F) Λ} {𝒱 : Variants} {c : Dev nD} {R : Refs sig} {x : Ins F} {α β : Type}

variable (defs 𝒱 c R x) in
/-- The program runs from any contents. -/
def Safe (p : PM F nD τ Λ sig α) : Prop := ∀ σ, Tr defs 𝒱 c R x p σ fun _ _ => True

theorem Safe.ret (a : α) : Safe defs 𝒱 c R x (pure a) := fun _ => Tr_pure trivial

theorem Safe.bind {p : PM F nD τ Λ sig α} {k : α → PM F nD τ Λ sig β} (h : Safe defs 𝒱 c R x p) (hk : ∀ a, Safe defs 𝒱 c R x (k a)) :
    Safe defs 𝒱 c R x (p >>= k) := fun σ => Tr_bind (h σ) fun a σ' _ => hk a σ'

theorem Safe.collect {n : ℕ} {f : Fin n → PM F nD τ Λ sig α} (hf : ∀ i, Safe defs 𝒱 c R x (f i)) : Safe defs 𝒱 c R x (collect n f) := fun _ =>
  Tr_mono (Tr_collect (P := fun _ _ => True) (fun _ => True) trivial fun i σ' _ => Tr_mono (hf i σ') fun _ _ _ => ⟨trivial, trivial⟩)
    fun _ _ _ => trivial

theorem Safe.forN {n : ℕ} {f : Fin n → PM F nD τ Λ sig PUnit} (hf : ∀ i, Safe defs 𝒱 c R x (f i)) : Safe defs 𝒱 c R x (forN n f) := fun _ =>
  Tr_forN (fun _ _ => True) trivial fun i σ' _ => hf i σ'

theorem Safe.forL {ι : Type} {f : ι → PM F nD τ Λ sig PUnit} (hf : ∀ i, Safe defs 𝒱 c R x (f i)) (l : List ι) : Safe defs 𝒱 c R x (forL f l) :=
  fun σ => Tr_forL (fun _ _ => True) (fun i _ σ' _ => hf i σ') l σ trivial

theorem Safe.kStep (lsc : F .f32) (w : IVec Q4x640 32) (t : Fin 5) : Safe defs 𝒱 c R x (kStep R lsc w t) :=
  .bind (fun _ => Tr_ld rd_k trivial) fun _ => .bind (fun σ => Tr_put (fun X' => { σ with kp := X' }) wr_kp fun _ _ => trivial) fun _ =>
    fun σ => Tr_put (fun X' => { σ with kp := X' }) wr_kp fun _ _ => trivial

theorem Safe.vStep (vs : FVec F Q20x128 .f32) (t : Fin 5) : Safe defs 𝒱 c R x (vStep R vs t) :=
  .bind (.collect fun _ => .bind (fun _ => Tr_ld rd_v trivial) fun _ => .ret _) fun _ =>
    fun σ => Tr_put (fun X' => { σ with vt := X' }) wr_vt fun _ _ => trivial

theorem Safe.scStep (qsw : Fin 14 → IVec Q4x640 32) (i : Fin 70) : Safe defs 𝒱 c R x (scStep R qsw i) :=
  fun σ => Tr_put (fun X' => { σ with sc := X' }) wr_sc fun _ _ => trivial

theorem Safe.setup (lsc : F .f32) : Safe defs 𝒱 c R x (setup R lsc) :=
  .bind (fun _ => Tr_ld rd_ks trivial) fun _ => .bind (.forN fun _ => .kStep _ _ _) fun _ =>
    .bind (fun _ => Tr_ld rd_vs trivial) fun _ => .bind (.forN fun _ => .vStep _ _) fun _ =>
    .bind (.collect fun _ => .bind (fun _ => Tr_ld rd_qs trivial) fun _ => .ret _) fun _ => .forN fun _ => .scStep _ _

theorem Safe.qTile (i : Fin 70) : Safe defs 𝒱 c R x (qTile R i) :=
  .bind (.collect fun _ => .bind (fun _ => Tr_ld rd_q trivial) fun _ => .ret _) fun _ =>
    .bind (.collect fun _ => .bind (fun _ => Tr_ld rd_sc trivial) fun _ => .ret _) fun _ => .ret _

theorem Safe.bmStep (a : Fin 2) (i : Fin 70) (g : Fin (ntp i / 8 + 1)) : Safe defs 𝒱 c R x (bmStep R a i g) :=
  .bind (.collect fun _ => .bind (fun _ => Tr_ld rd_pm trivial) fun _ => .ret _) fun _ => .ret _

theorem Safe.pTile {n : ℕ} (s : FVec F (Qn n 256) .f32) (a : Fin 2) (i : Fin 70) (h : ntp i + 1 ≤ n) : Safe defs 𝒱 c R x (pTile R s a i h) :=
  .bind (.forN fun _ => fun σ => Tr_put (fun X' => { σ with pm := X' }) wr_pm fun _ _ => trivial) fun _ =>
    .bind (.collect fun _ => .bmStep _ _ _) fun _ =>
    .bind (.forN fun _ => .bind (fun σ => Tr_put (fun X' => { σ with fac := X' }) wr_fac fun _ _ => trivial) fun _ =>
      fun σ => Tr_put (fun X' => { σ with ex := X' }) wr_ex fun _ _ => trivial) fun _ =>
    .bind (.collect fun _ => .bind (fun _ => Tr_ld rd_fac trivial) fun _ => .bind (fun _ => Tr_ld rd_ex trivial) fun _ => .ret _) fun _ => .ret _

theorem Safe.pairStep (i0 : Fin 35) : Safe defs 𝒱 c R x (pairStep R i0) :=
  .bind (.collect fun _ => .qTile _) fun _ => .bind (fun _ => Tr_ld rd_kp trivial) fun _ => .bind (.collect fun _ => .pTile _ _ _ _) fun _ =>
    .bind (fun _ => Tr_ld rd_vt trivial) fun _ => .forN fun _ => .forN fun _ =>
      fun σ => Tr_put (fun X' => { σ with o := X' }) wr_o fun _ _ => trivial

theorem Safe.body (lsc : F .f32) (pairs : List (Fin 35)) : Safe defs 𝒱 c R x (body R lsc pairs) :=
  .bind (.setup _) fun _ => .forL (fun _ => .pairStep _) _

end Proof01k

end
-- ==== Proof.RunKernel.lean ====
/-
The run of `Kernel`'s one call: every point's body runs from any contents of its buffers, so the program ends and its
arguments are unchanged.
-/
module

public import proofs.«01_k».proof.Proof.Gen.Kernel.Launch
public import proofs.«01_k».proof.Proof.Gen.Kernel.Points
public import proofs.«01_k».proof.Proof.Gen.Kernel.Frame
public import Idealize.ShloMosaic.Lib.Claim
public import proofs.«01_k».proof.Proof.TieKernel
public import proofs.«01_k».proof.Proof.Safe

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Proof01k (Refs Ins St Own Tr)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run whose final states have every array outside the call as the call found it leaves the arguments unchanged. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- Each window's current staging memref at point `t`, spelled as the pipeline passes it (`bodyAt0`), and its wholeness. -/
abbrev ms0_0 (t : Fin cfg0.N) : Memref sig .tc .vmem S1x14x640x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x14x4x640 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x640x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4x640 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x640x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x20x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x640x1792 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S640x256 .bf16 := Memref.whole cc0_scratch0
abbrev scM0_1 : Memref sig .tc .vmem S128x640 .bf16 := Memref.whole cc0_scratch1
abbrev scM0_2 : Memref sig .tc .vmem S280x128 .i32 := Memref.whole cc0_scratch2
abbrev scM0_3 : Memref sig .tc .vmem S2x224x128 .f32 := Memref.whole cc0_scratch3
abbrev scM0_4 : Memref sig .tc .vmem S2x24x128 .f32 := Memref.whole cc0_scratch4
abbrev scM0_5 : Memref sig .tc .vmem S2x24x128 .i32 := Memref.whole cc0_scratch5

/-- The call's own memory: its six scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The proof data -/

/-- The output window, of which a frame says nothing. -/
def forgets0 : Fin 7 → Bool := fun w => w.val == 6

/-- What the output block holds after each point's body. -/
abbrev Out := Dev nD → (t : Fin cfg0.N) → S1x640x1792.Idx → Elt F .bf16

variable (O : Out (F := F))

/-- The arrays as the call finds them; after the body each input buffer at its block and the output block at `O`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => O c t
  Φ _ := Pipeline.ΦA spec0 c
  q _ := fullShare
  owed _ := 0

theorem A_eq (c : Dev nD) (w : Fin cfg0.W) : (dats m O 0 c).A w = V m c (Pipeline.arrRef spec0 w) := by
  dsimp only [dats]

theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = iblk m c 4 t := by dsimp only [dats]
theorem after0_5 (c : Dev nD) (t : Fin cfg0.N) : (dats m O 0 c).after 5 t = iblk m c 5 t := by dsimp only [dats]
theorem after0_6 (c : Dev nD) (t : Fin cfg0.N) : (dats m O 0 c).after 6 t = O c t := by dsimp only [dats]

theorem before0_0 (c : Dev nD) (t : Fin cfg0.N) (d) : (dats m O 0 c).before 0 t d = iblk m c 0 t :=
  before0_0_of m (dats m O 0 c) (A_eq m O c 0) (after0_0 m O c) t d
theorem before0_1 (c : Dev nD) (t : Fin cfg0.N) (d) : (dats m O 0 c).before 1 t d = iblk m c 1 t :=
  before0_1_of m (dats m O 0 c) (A_eq m O c 1) (after0_1 m O c) t d
theorem before0_2 (c : Dev nD) (t : Fin cfg0.N) (d) : (dats m O 0 c).before 2 t d = iblk m c 2 t :=
  before0_2_of m (dats m O 0 c) (A_eq m O c 2) (after0_2 m O c) t d
theorem before0_3 (c : Dev nD) (t : Fin cfg0.N) (d) : (dats m O 0 c).before 3 t d = iblk m c 3 t :=
  before0_3_of m (dats m O 0 c) (A_eq m O c 3) (after0_3 m O c) t d
theorem before0_4 (c : Dev nD) (t : Fin cfg0.N) (d) : (dats m O 0 c).before 4 t d = iblk m c 4 t :=
  before0_4_of m (dats m O 0 c) (A_eq m O c 4) (after0_4 m O c) t d
theorem before0_5 (c : Dev nD) (t : Fin cfg0.N) (d) : (dats m O 0 c).before 5 t d = iblk m c 5 t :=
  before0_5_of m (dats m O 0 c) (A_eq m O c 5) (after0_5 m O c) t d

/-! ## The body -/

/-- The buffers of the body at a point. -/
abbrev refs (t : Fin cfg0.N) : Refs sig :=
  ⟨ms0_0 t, ms0_1 t, ms0_2 t, ms0_3 t, ms0_4 t, ms0_5 t, ms0_6 t, hs0_6 t, scM0_0, Memref.isWhole_whole _, scM0_1, Memref.isWhole_whole _,
    scM0_2, scM0_3, scM0_4, scM0_5⟩

/-- What the input blocks hold at a point. -/
abbrev ins (c : Dev nD) (t : Fin cfg0.N) : Ins F :=
  ⟨iblk m c 0 t, iblk m c 1 t, iblk m c 2 t, iblk m c 3 t, iblk m c 4 t, iblk m c 5 t⟩

/-- The looped body at a point. -/
abbrev loops (t : Fin cfg0.N) : Prog (TpuEff nD τ sig (Elt F) Λ₀ .tc) PUnit :=
  Proof01k.body (refs t) (Scalar.ofBits .f32 0x3E0293EE#32) Proof01k.pairs

theorem bodyAt0_eq (t : Fin cfg0.N) : bodyAt0 (F := F) t = loops t :=
  Proof01k.tie_Kernel ..

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The body runs at any point. -/
theorem sound_body (c : Dev nD) (t : Fin cfg0.N) :
    iprop((dats m O 0 c).Φ t.castSucc ∗ (dats m O 0 c).owesAt () t.castSucc
      ∗ (∃ d, owns (c : Thread nD τ) (ms0_0 t) fullShare ((dats m O 0 c).before 0 t d))
      ∗ (∃ d, owns (c : Thread nD τ) (ms0_1 t) fullShare ((dats m O 0 c).before 1 t d))
      ∗ (∃ d, owns (c : Thread nD τ) (ms0_2 t) fullShare ((dats m O 0 c).before 2 t d))
      ∗ (∃ d, owns (c : Thread nD τ) (ms0_3 t) fullShare ((dats m O 0 c).before 3 t d))
      ∗ (∃ d, owns (c : Thread nD τ) (ms0_4 t) fullShare ((dats m O 0 c).before 4 t d))
      ∗ (∃ d, owns (c : Thread nD τ) (ms0_5 t) fullShare ((dats m O 0 c).before 5 t d))
      ∗ (∃ d, owns (c : Thread nD τ) (ms0_6 t) fullShare d))
    ⊢ wp frame (wpE (defs₀ (F := F)) Variants.none c none) Set.univ (bodyAt0 t) (fun _ =>
    iprop((dats m O 0 c).Φ t.succ ∗ (dats m O 0 c).owesAt () t.succ
      ∗ owns (c : Thread nD τ) (ms0_0 t) fullShare ((dats m O 0 c).after 0 t)
      ∗ owns (c : Thread nD τ) (ms0_1 t) fullShare ((dats m O 0 c).after 1 t)
      ∗ owns (c : Thread nD τ) (ms0_2 t) fullShare ((dats m O 0 c).after 2 t)
      ∗ owns (c : Thread nD τ) (ms0_3 t) fullShare ((dats m O 0 c).after 3 t)
      ∗ owns (c : Thread nD τ) (ms0_4 t) fullShare ((dats m O 0 c).after 4 t)
      ∗ owns (c : Thread nD τ) (ms0_5 t) fullShare ((dats m O 0 c).after 5 t)
      ∗ (∃ d, owns (c : Thread nD τ) (ms0_6 t) fullShare d))) := by
  rw [bodyAt0_eq]
  simp only [before0_0, before0_1, before0_2, before0_3, before0_4, before0_5]
  rw [show (dats m O 0 c).Φ t.succ = (dats m O 0 c).Φ t.castSucc from rfl,
    show (dats m O 0 c).owesAt () t.succ = (dats m O 0 c).owesAt () t.castSucc from rfl,
    after0_0, after0_1, after0_2, after0_3, after0_4, after0_5]
  rw [show (dats m O 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩⟩
  iapply (Proof01k.Tr_run (R := refs t) (x := ins m c t) (Proof01k.Safe.body _ _ ⟨d6, s0, s1, s2, s3, s4, s5⟩))
  unfold Proof01k.Own
  isplitl [H0 H1 H2 H3 H4 H5 H6 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iexact HS5
  iintro %a %σ' %hq ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexists _; iexact HS0
      isplitl [HS1]
      · iexists _; iexact HS1
      isplitl [HS2]
      · iexists _; iexact HS2
      isplitl [HS3]
      · iexists _; iexact HS3
      isplitl [HS4]
      · iexists _; iexact HS4
      iexists _; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

theorem body_obligation (c : Dev nD) : BodyObligation (dats m O 0 c) (defs₀ (F := F)) Variants.none () Set.univ forgets0 := fun t => by
  rw [bigSep_W0, bigSep_W0, defs₀_row]
  exact triple_restated (sound_body m O c t) rfl .rfl fun _ => .rfl

/-! ## The frame -/

/-- Nothing is said of the output block. -/
def noOut : Out (F := F) := fun _ _ _ => Scalar.ofBits .bf16 0x0000#16

set_option backward.isDefEq.respectTransparency.types false in
theorem run_forget : θ_run defs (onTc (τ := τ) (main (F := F))) (s₀ m ρ)
    (fun r => (Pipeline.RDat.FramePost (cfgs 0) (fun c => (dats m noOut 0 c).toRForget forgets0) (V m)) r ∧ r.2.sem = fun _ => 0) :=
  Pipeline.θ_run_frame_forget (Q' := _) cfgs (dats m noOut) (0 : Fin 1) launch0 defs₀ Variants.none forgets0 m ρ main
    (hbody := fun c => (body_obligation m noOut c).loose) (hshare := fun c => (dats m noOut 0 c).share_full fun _ => rfl)
    (howed := fun _ _ => rfl) (V := V m) (hmain := hmain m Variants.none) (hA := A_eq m noOut) (hΦ := fun _ _ => rfl)

/-- The program ends, its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of_run m ρ (fun c => (dats m noOut 0 c).toRForget forgets0) (A_eq m noOut) ((θ_run defs _ _).mono (fun _ h => h.1) (run_forget m ρ)))
    ((θ_run defs _ _).mono (fun _ h => h.2) (run_forget m ρ))

end Cert.Kernel.Gen

end
-- ==== Proof.TieKernelIdeal.lean ====
/- The printed body of `KernelIdeal` is the looped body. -/
module

public import proofs.«01_k».proof.KernelIdeal
public import Idealize.ShloMosaic.Lib.Tactic
public import proofs.«01_k».proof.Proof.Model

@[expose] public section

namespace Proof01k

open Idealize.ShloMosaic Idealize.SL.Sem

open Cert.KernelIdeal in
theorem tie_KernelIdeal {F : FTy → Type} [FloatOps F] [Named F] [Facts]
    (i) (arg2) (h2) (arg3) (h3) (arg4) (h4) (arg5) (h5) (arg6) (h6) (arg7) (h7) (arg8) (h8) (arg9) (h9) (arg10) (h10)
    (arg11) (h11) (arg12) (h12) (arg13) (h13) (arg14) (h14) :
    cc0_mx_attn (F := F) i arg2 h2 arg3 h3 arg4 h4 arg5 h5 arg6 h6 arg7 h7 arg8 h8 arg9 h9 arg10 h10 arg11 h11 arg12 h12 arg13 h13 arg14 h14
      = body (F := F) (Λ := Λ₀) (nD := nD) (τ := τ) ⟨arg2, arg3, arg4, arg5, arg6, arg7, arg8, h8, arg9, h9, arg10, h10, arg11, arg12, arg13, arg14⟩
          (Named.named κ "logit_scale" 0x3E0293EE#32) pairs := by
  sl_kernel_rfl

end Proof01k
-- ==== Proof.RunKernelIdeal.lean ====
/-
The run of `KernelIdeal`'s one call: every point's body runs from any contents of its buffers, so the program ends and its
arguments are unchanged. When the output block's contents after each body are known, so is the output array.
-/
module

public import proofs.«01_k».proof.Proof.Gen.KernelIdeal.Launch
public import proofs.«01_k».proof.Proof.Gen.KernelIdeal.Points
public import proofs.«01_k».proof.Proof.Gen.KernelIdeal.Frame
public import Idealize.ShloMosaic.Lib.Claim
public import proofs.«01_k».proof.Proof.TieKernelIdeal
public import proofs.«01_k».proof.Proof.Safe

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Proof01k (Refs Ins St Own Tr)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A run whose final states have every array outside the call as the call found it leaves the arguments unchanged. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- Each window's current staging memref at point `t`, spelled as the pipeline passes it (`bodyAt0`), and its wholeness. -/
abbrev ms0_0 (t : Fin cfg0.N) : Memref sig .tc .vmem S1x14x640x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x14x4x640 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x640x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4x640 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x640x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x20x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x640x1792 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S640x256 .bf16 := Memref.whole cc0_scratch0
abbrev scM0_1 : Memref sig .tc .vmem S128x640 .bf16 := Memref.whole cc0_scratch1
abbrev scM0_2 : Memref sig .tc .vmem S280x128 .i32 := Memref.whole cc0_scratch2
abbrev scM0_3 : Memref sig .tc .vmem S2x224x128 .f32 := Memref.whole cc0_scratch3
abbrev scM0_4 : Memref sig .tc .vmem S2x24x128 .f32 := Memref.whole cc0_scratch4
abbrev scM0_5 : Memref sig .tc .vmem S2x24x128 .i32 := Memref.whole cc0_scratch5

/-- The call's own memory: its six scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The proof data -/

/-- The output window, of which a frame says nothing. -/
def forgets0 : Fin 7 → Bool := fun w => w.val == 6

/-- What the output block holds after each point's body. -/
abbrev Out := Dev nD → (t : Fin cfg0.N) → S1x640x1792.Idx → Elt F .bf16

variable (O : Out (F := F))

/-- The arrays as the call finds them; after the body each input buffer at its block and the output block at `O`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => O c t
  Φ _ := Pipeline.ΦA spec0 c
  q _ := fullShare
  owed _ := 0

theorem A_eq (c : Dev nD) (w : Fin cfg0.W) : (dats m O 0 c).A w = V m c (Pipeline.arrRef spec0 w) := by
  dsimp only [dats]

theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = iblk m c 4 t := by dsimp only [dats]
theorem after0_5 (c : Dev nD) (t : Fin cfg0.N) : (dats m O 0 c).after 5 t = iblk m c 5 t := by dsimp only [dats]
theorem after0_6 (c : Dev nD) (t : Fin cfg0.N) : (dats m O 0 c).after 6 t = O c t := by dsimp only [dats]

theorem before0_0 (c : Dev nD) (t : Fin cfg0.N) (d) : (dats m O 0 c).before 0 t d = iblk m c 0 t :=
  before0_0_of m (dats m O 0 c) (A_eq m O c 0) (after0_0 m O c) t d
theorem before0_1 (c : Dev nD) (t : Fin cfg0.N) (d) : (dats m O 0 c).before 1 t d = iblk m c 1 t :=
  before0_1_of m (dats m O 0 c) (A_eq m O c 1) (after0_1 m O c) t d
theorem before0_2 (c : Dev nD) (t : Fin cfg0.N) (d) : (dats m O 0 c).before 2 t d = iblk m c 2 t :=
  before0_2_of m (dats m O 0 c) (A_eq m O c 2) (after0_2 m O c) t d
theorem before0_3 (c : Dev nD) (t : Fin cfg0.N) (d) : (dats m O 0 c).before 3 t d = iblk m c 3 t :=
  before0_3_of m (dats m O 0 c) (A_eq m O c 3) (after0_3 m O c) t d
theorem before0_4 (c : Dev nD) (t : Fin cfg0.N) (d) : (dats m O 0 c).before 4 t d = iblk m c 4 t :=
  before0_4_of m (dats m O 0 c) (A_eq m O c 4) (after0_4 m O c) t d
theorem before0_5 (c : Dev nD) (t : Fin cfg0.N) (d) : (dats m O 0 c).before 5 t d = iblk m c 5 t :=
  before0_5_of m (dats m O 0 c) (A_eq m O c 5) (after0_5 m O c) t d

/-! ## The body -/

/-- The buffers of the body at a point. -/
abbrev refs (t : Fin cfg0.N) : Refs sig :=
  ⟨ms0_0 t, ms0_1 t, ms0_2 t, ms0_3 t, ms0_4 t, ms0_5 t, ms0_6 t, hs0_6 t, scM0_0, Memref.isWhole_whole _, scM0_1, Memref.isWhole_whole _,
    scM0_2, scM0_3, scM0_4, scM0_5⟩

/-- What the input blocks hold at a point. -/
abbrev ins (c : Dev nD) (t : Fin cfg0.N) : Ins F :=
  ⟨iblk m c 0 t, iblk m c 1 t, iblk m c 2 t, iblk m c 3 t, iblk m c 4 t, iblk m c 5 t⟩

/-- The looped body at a point. -/
abbrev loops (t : Fin cfg0.N) : Prog (TpuEff nD τ sig (Elt F) Λ₀ .tc) PUnit :=
  Proof01k.body (refs t) (Named.named κ "logit_scale" 0x3E0293EE#32) Proof01k.pairs

theorem bodyAt0_eq (t : Fin cfg0.N) : bodyAt0 (F := F) t = loops t :=
  Proof01k.tie_KernelIdeal ..

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The body runs at any point. -/
theorem sound_body (c : Dev nD) (t : Fin cfg0.N) :
    iprop((dats m O 0 c).Φ t.castSucc ∗ (dats m O 0 c).owesAt () t.castSucc
      ∗ (∃ d, owns (c : Thread nD τ) (ms0_0 t) fullShare ((dats m O 0 c).before 0 t d))
      ∗ (∃ d, owns (c : Thread nD τ) (ms0_1 t) fullShare ((dats m O 0 c).before 1 t d))
      ∗ (∃ d, owns (c : Thread nD τ) (ms0_2 t) fullShare ((dats m O 0 c).before 2 t d))
      ∗ (∃ d, owns (c : Thread nD τ) (ms0_3 t) fullShare ((dats m O 0 c).before 3 t d))
      ∗ (∃ d, owns (c : Thread nD τ) (ms0_4 t) fullShare ((dats m O 0 c).before 4 t d))
      ∗ (∃ d, owns (c : Thread nD τ) (ms0_5 t) fullShare ((dats m O 0 c).before 5 t d))
      ∗ (∃ d, owns (c : Thread nD τ) (ms0_6 t) fullShare d))
    ⊢ wp frame (wpE (defs₀ (F := F)) Variants.none c none) Set.univ (bodyAt0 t) (fun _ =>
    iprop((dats m O 0 c).Φ t.succ ∗ (dats m O 0 c).owesAt () t.succ
      ∗ owns (c : Thread nD τ) (ms0_0 t) fullShare ((dats m O 0 c).after 0 t)
      ∗ owns (c : Thread nD τ) (ms0_1 t) fullShare ((dats m O 0 c).after 1 t)
      ∗ owns (c : Thread nD τ) (ms0_2 t) fullShare ((dats m O 0 c).after 2 t)
      ∗ owns (c : Thread nD τ) (ms0_3 t) fullShare ((dats m O 0 c).after 3 t)
      ∗ owns (c : Thread nD τ) (ms0_4 t) fullShare ((dats m O 0 c).after 4 t)
      ∗ owns (c : Thread nD τ) (ms0_5 t) fullShare ((dats m O 0 c).after 5 t)
      ∗ (∃ d, owns (c : Thread nD τ) (ms0_6 t) fullShare d))) := by
  rw [bodyAt0_eq]
  simp only [before0_0, before0_1, before0_2, before0_3, before0_4, before0_5]
  rw [show (dats m O 0 c).Φ t.succ = (dats m O 0 c).Φ t.castSucc from rfl,
    show (dats m O 0 c).owesAt () t.succ = (dats m O 0 c).owesAt () t.castSucc from rfl,
    after0_0, after0_1, after0_2, after0_3, after0_4, after0_5]
  rw [show (dats m O 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩⟩
  iapply (Proof01k.Tr_run (R := refs t) (x := ins m c t) (Proof01k.Safe.body _ _ ⟨d6, s0, s1, s2, s3, s4, s5⟩))
  unfold Proof01k.Own
  isplitl [H0 H1 H2 H3 H4 H5 H6 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iexact HS5
  iintro %a %σ' %hq ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexists _; iexact HS0
      isplitl [HS1]
      · iexists _; iexact HS1
      isplitl [HS2]
      · iexists _; iexact HS2
      isplitl [HS3]
      · iexists _; iexact HS3
      isplitl [HS4]
      · iexists _; iexact HS4
      iexists _; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

theorem body_obligation (c : Dev nD) : BodyObligation (dats m O 0 c) (defs₀ (F := F)) Variants.none () Set.univ forgets0 := fun t => by
  rw [bigSep_W0, bigSep_W0, defs₀_row]
  exact triple_restated (sound_body m O c t) rfl .rfl fun _ => .rfl

/-! ## The frame -/

/-- Nothing is said of the output block. -/
def noOut : Out (F := F) := fun _ _ _ => Scalar.ofBits .bf16 0x0000#16

set_option backward.isDefEq.respectTransparency.types false in
theorem run_forget : θ_run defs (onTc (τ := τ) (main (F := F))) (s₀ m ρ)
    (fun r => (Pipeline.RDat.FramePost (cfgs 0) (fun c => (dats m noOut 0 c).toRForget forgets0) (V m)) r ∧ r.2.sem = fun _ => 0) :=
  Pipeline.θ_run_frame_forget (Q' := _) cfgs (dats m noOut) (0 : Fin 1) launch0 defs₀ Variants.none forgets0 m ρ main
    (hbody := fun c => (body_obligation m noOut c).loose) (hshare := fun c => (dats m noOut 0 c).share_full fun _ => rfl)
    (howed := fun _ _ => rfl) (V := V m) (hmain := hmain m Variants.none) (hA := A_eq m noOut) (hΦ := fun _ _ => rfl)

/-- The program ends, its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of_run m ρ (fun c => (dats m noOut 0 c).toRForget forgets0) (A_eq m noOut) ((θ_run defs _ _).mono (fun _ h => h.1) (run_forget m ρ)))
    ((θ_run defs _ _).mono (fun _ h => h.2) (run_forget m ρ))

/-! ## The value -/

/-- The body at a point, when what it leaves in the output block is known. -/
theorem sound_value (c : Dev nD) (t : Fin cfg0.N) (hO : ∀ σ, Tr (F := F) defs₀ Variants.none c (refs t) (ins m c t) (loops t) σ fun _ σ' => σ'.o = O c t) :
    iprop((dats m O 0 c).Φ t.castSucc ∗ (dats m O 0 c).owesAt () t.castSucc
      ∗ (∃ d, owns (c : Thread nD τ) (ms0_0 t) fullShare ((dats m O 0 c).before 0 t d))
      ∗ (∃ d, owns (c : Thread nD τ) (ms0_1 t) fullShare ((dats m O 0 c).before 1 t d))
      ∗ (∃ d, owns (c : Thread nD τ) (ms0_2 t) fullShare ((dats m O 0 c).before 2 t d))
      ∗ (∃ d, owns (c : Thread nD τ) (ms0_3 t) fullShare ((dats m O 0 c).before 3 t d))
      ∗ (∃ d, owns (c : Thread nD τ) (ms0_4 t) fullShare ((dats m O 0 c).before 4 t d))
      ∗ (∃ d, owns (c : Thread nD τ) (ms0_5 t) fullShare ((dats m O 0 c).before 5 t d))
      ∗ (∃ d, owns (c : Thread nD τ) (ms0_6 t) fullShare ((dats m O 0 c).before 6 t d)))
    ⊢ wp frame (wpE (defs₀ (F := F)) Variants.none c none) Set.univ (bodyAt0 t) (fun _ =>
    iprop((dats m O 0 c).Φ t.succ ∗ (dats m O 0 c).owesAt () t.succ
      ∗ owns (c : Thread nD τ) (ms0_0 t) fullShare ((dats m O 0 c).after 0 t)
      ∗ owns (c : Thread nD τ) (ms0_1 t) fullShare ((dats m O 0 c).after 1 t)
      ∗ owns (c : Thread nD τ) (ms0_2 t) fullShare ((dats m O 0 c).after 2 t)
      ∗ owns (c : Thread nD τ) (ms0_3 t) fullShare ((dats m O 0 c).after 3 t)
      ∗ owns (c : Thread nD τ) (ms0_4 t) fullShare ((dats m O 0 c).after 4 t)
      ∗ owns (c : Thread nD τ) (ms0_5 t) fullShare ((dats m O 0 c).after 5 t)
      ∗ owns (c : Thread nD τ) (ms0_6 t) fullShare ((dats m O 0 c).after 6 t))) := by
  rw [bodyAt0_eq]
  simp only [before0_0, before0_1, before0_2, before0_3, before0_4, before0_5]
  rw [show (dats m O 0 c).Φ t.succ = (dats m O 0 c).Φ t.castSucc from rfl,
    show (dats m O 0 c).owesAt () t.succ = (dats m O 0 c).owesAt () t.castSucc from rfl,
    after0_0, after0_1, after0_2, after0_3, after0_4, after0_5, after0_6]
  rw [show (dats m O 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩⟩
  iapply (Proof01k.Tr_run (R := refs t) (x := ins m c t) (hO ⟨(dats m O 0 c).before 6 t d6, s0, s1, s2, s3, s4, s5⟩))
  unfold Proof01k.Own
  isplitl [H0 H1 H2 H3 H4 H5 H6 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iexact HS5
  iintro %a %σ' %hq ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexists _; iexact HS0
      isplitl [HS1]
      · iexists _; iexact HS1
      isplitl [HS2]
      · iexists _; iexact HS2
      isplitl [HS3]
      · iexists _; iexact HS3
      isplitl [HS4]
      · iexists _; iexact HS4
      iexists _; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [← hq]; iexact H6

theorem value_obligation (hO : ∀ c t σ, Tr (F := F) defs₀ Variants.none c (refs t) (ins m c t) (loops t) σ fun _ σ' => σ'.o = O c t) (c : Dev nD) :
    BodyObligation (dats m O 0 c) (defs₀ (F := F)) Variants.none () Set.univ := fun t => by
  rw [bigSep_W0, bigSep_W0, defs₀_row]
  exact triple_restated (sound_value m O c t (hO c t)) rfl .rfl fun _ => .rfl

set_option backward.isDefEq.respectTransparency.types false in
/-- The run, when what each point leaves in the output block is known. -/
theorem run_value (hO : ∀ c t σ, Tr (F := F) defs₀ Variants.none c (refs t) (ins m c t) (loops t) σ fun _ σ' => σ'.o = O c t) :
    θ_run defs (onTc (τ := τ) (main (F := F))) (s₀ m ρ) (Pipeline.FramePost cfgs (dats m O) 0 (V m)) :=
  Pipeline.θ_run_frame cfgs (dats m O) (0 : Fin 1) launch0 defs₀ Variants.none m ρ main
    (hbody := fun c => (value_obligation m O hO c).loose) (hshare := fun c => (dats m O 0 c).share_full fun _ => rfl)
    (howed := fun _ _ => rfl) (V := V m) (hmain := hmain m Variants.none) (hA := A_eq m O) (hΦ := fun _ _ => rfl)

end Cert.KernelIdeal.Gen

end
-- ==== Proof.Blocks.lean ====
/-
The blocks the kernel's grid points read and write, in terms of the arguments.
-/
module

public import proofs.«01_k».proof.Proof.RunKernelIdeal
public import Idealize.ShloMosaic.Lib.Pipeline.ValueKit

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

theorem V_v3 (c : Dev nD) : V m c main_v3 = transpose S3x28x640x128 [0, 2, 1, 3] (bitcastToFloat .fp8e4m3 (m ((c : Thread nD τ).loc main_arg0)) : FVec Ideal S3x640x28x128 .fp8e4m3) transposes_S3x640x28x128_S3x28x640x128_0_2_1_3 := by
  unfold_abbrev_sides
  after_results
theorem V_v4 (c : Dev nD) : V m c main_v4 = transpose S3x28x4x640 [0, 2, 3, 1] (m ((c : Thread nD τ).loc main_arg1)) transposes_S3x640x28x4_S3x28x4x640_0_2_3_1 := by
  unfold_abbrev_sides
  after_results
theorem V_v5 (c : Dev nD) : V m c main_v5 = transpose S3x2x640x128 [0, 2, 1, 3] (bitcastToFloat .fp8e4m3 (m ((c : Thread nD τ).loc main_arg2)) : FVec Ideal S3x640x2x128 .fp8e4m3) transposes_S3x640x2x128_S3x2x640x128_0_2_1_3 := by
  unfold_abbrev_sides
  after_results
theorem V_v6 (c : Dev nD) : V m c main_v6 = transpose S3x2x4x640 [0, 2, 3, 1] (m ((c : Thread nD τ).loc main_arg3)) transposes_S3x640x2x4_S3x2x4x640_0_2_3_1 := by
  unfold_abbrev_sides
  after_results
theorem V_v7 (c : Dev nD) : V m c main_v7 = transpose S3x2x640x128 [0, 2, 1, 3] (bitcastToFloat .fp8e4m3 (m ((c : Thread nD τ).loc main_arg4)) : FVec Ideal S3x640x2x128 .fp8e4m3) transposes_S3x640x2x128_S3x2x640x128_0_2_1_3 := by
  unfold_abbrev_sides
  after_results
theorem V_v8 (c : Dev nD) : V m c main_v8 = transpose S3x2x20x128 [0, 2, 1, 3] (m ((c : Thread nD τ).loc main_arg5)) transposes_S3x20x2x128_S3x2x20x128_0_2_1_3 := by
  unfold_abbrev_sides
  after_results

/-- The batch entry and the key head of a grid point. -/
abbrev gb (t : Fin cfg0.N) : Fin 3 := grid0.coords t 0
abbrev gg (t : Fin cfg0.N) : Fin 2 := grid0.coords t 1

theorem idx (t : Fin cfg0.N) : win0_0.index t = ![(gb t).val, (gg t).val, 0, 0] ∧ win0_1.index t = ![(gb t).val, (gg t).val, 0, 0]
    ∧ win0_2.index t = ![(gb t).val, (gg t).val, 0, 0] ∧ win0_3.index t = ![(gb t).val, (gg t).val, 0, 0]
    ∧ win0_4.index t = ![(gb t).val, (gg t).val, 0, 0] ∧ win0_5.index t = ![(gb t).val, (gg t).val, 0, 0]
    ∧ win0_6.index t = ![(gb t).val, 0, (gg t).val] := by
  rcases fin_N0 t with rfl | rfl | rfl | rfl | rfl | rfl <;> decide +kernel

theorem ins_q (c : Dev nD) (t : Fin cfg0.N) (h : Fin 14) (p : Fin 640) (d : Fin 128) :
    (ins m c t).q (ix4 0 h p d) = (bitcastToFloat .fp8e4m3 (m ((c : Thread nD τ).loc main_arg0)) : FVec Ideal S3x640x28x128 .fp8e4m3) (ix4 (gb t) p ⟨(gg t).val * 14 + h.val, by have := (gg t).isLt; omega⟩ d) := by
  have hE : V m c main_v3 (((cfg0.win 0).blk t).view.emb (ix4 0 h p d)) = V m c main_v3 (ix4 (gb t) ⟨(gg t).val * 14 + h.val, by have := (gg t).isLt; omega⟩ p d) := by
    blk_ext [(idx t).1]
  refine (show (ins m c t).q (ix4 0 h p d) = V m c main_v3 (((cfg0.win 0).blk t).view.emb (ix4 0 h p d)) from rfl).trans (hE.trans ?_)
  rw [V_v3]
  pointwise

theorem ins_qs (c : Dev nD) (t : Fin cfg0.N) (h : Fin 14) (e : Fin 4) (p : Fin 640) :
    (ins m c t).qs (ix4 0 h e p) = (show IVec S3x640x28x4 8 from m ((c : Thread nD τ).loc main_arg1)) (ix4 (gb t) p ⟨(gg t).val * 14 + h.val, by have := (gg t).isLt; omega⟩ e) := by
  have hE : V m c main_v4 (((cfg0.win 1).blk t).view.emb (ix4 0 h e p)) = V m c main_v4 (ix4 (gb t) ⟨(gg t).val * 14 + h.val, by have := (gg t).isLt; omega⟩ e p) := by
    blk_ext [(idx t).2.1]
  refine (show (ins m c t).qs (ix4 0 h e p) = V m c main_v4 (((cfg0.win 1).blk t).view.emb (ix4 0 h e p)) from rfl).trans (hE.trans ?_)
  rw [V_v4]
  pointwise

theorem ins_k (c : Dev nD) (t : Fin cfg0.N) (p : Fin 640) (d : Fin 128) :
    (ins m c t).k (ix4 0 0 p d) = (bitcastToFloat .fp8e4m3 (m ((c : Thread nD τ).loc main_arg2)) : FVec Ideal S3x640x2x128 .fp8e4m3) (ix4 (gb t) p (gg t) d) := by
  have hE : V m c main_v5 (((cfg0.win 2).blk t).view.emb (ix4 0 0 p d)) = V m c main_v5 (ix4 (gb t) (gg t) p d) := by
    blk_ext [(idx t).2.2.1]
  refine (show (ins m c t).k (ix4 0 0 p d) = V m c main_v5 (((cfg0.win 2).blk t).view.emb (ix4 0 0 p d)) from rfl).trans (hE.trans ?_)
  rw [V_v5]
  pointwise

theorem ins_ks (c : Dev nD) (t : Fin cfg0.N) (e : Fin 4) (p : Fin 640) :
    (ins m c t).ks (ix4 0 0 e p) = (show IVec S3x640x2x4 8 from m ((c : Thread nD τ).loc main_arg3)) (ix4 (gb t) p (gg t) e) := by
  have hE : V m c main_v6 (((cfg0.win 3).blk t).view.emb (ix4 0 0 e p)) = V m c main_v6 (ix4 (gb t) (gg t) e p) := by
    blk_ext [(idx t).2.2.2.1]
  refine (show (ins m c t).ks (ix4 0 0 e p) = V m c main_v6 (((cfg0.win 3).blk t).view.emb (ix4 0 0 e p)) from rfl).trans (hE.trans ?_)
  rw [V_v6]
  pointwise

theorem ins_v (c : Dev nD) (t : Fin cfg0.N) (p : Fin 640) (d : Fin 128) :
    (ins m c t).v (ix4 0 0 p d) = (bitcastToFloat .fp8e4m3 (m ((c : Thread nD τ).loc main_arg4)) : FVec Ideal S3x640x2x128 .fp8e4m3) (ix4 (gb t) p (gg t) d) := by
  have hE : V m c main_v7 (((cfg0.win 4).blk t).view.emb (ix4 0 0 p d)) = V m c main_v7 (ix4 (gb t) (gg t) p d) := by
    blk_ext [(idx t).2.2.2.2.1]
  refine (show (ins m c t).v (ix4 0 0 p d) = V m c main_v7 (((cfg0.win 4).blk t).view.emb (ix4 0 0 p d)) from rfl).trans (hE.trans ?_)
  rw [V_v7]
  pointwise

theorem ins_vs (c : Dev nD) (t : Fin cfg0.N) (p : Fin 20) (d : Fin 128) :
    (ins m c t).vs (ix4 0 0 p d) = (show IVec S3x20x2x128 8 from m ((c : Thread nD τ).loc main_arg5)) (ix4 (gb t) p (gg t) d) := by
  have hE : V m c main_v8 (((cfg0.win 5).blk t).view.emb (ix4 0 0 p d)) = V m c main_v8 (ix4 (gb t) (gg t) p d) := by
    blk_ext [(idx t).2.2.2.2.2.1]
  refine (show (ins m c t).vs (ix4 0 0 p d) = V m c main_v8 (((cfg0.win 5).blk t).view.emb (ix4 0 0 p d)) from rfl).trans (hE.trans ?_)
  rw [V_v8]
  pointwise

/-- The place of an entry of an output block. -/
theorem out_emb (t : Fin cfg0.N) (p : Fin 640) (d : Fin 1792) :
    (((cfg0.win 6).blk t).view.emb (ix3 0 p d) : S3x640x3584.Idx) = ix3 (gb t) p ⟨1792 * (gg t).val + d.val, by have := (gg t).isLt; omega⟩ := by
  blk_ext [(idx t).2.2.2.2.2.2]

theorem covers_out : (cfg0.win 6).Covers := by decide +kernel

/-- The output array after the run is `G` when every point leaves `G`'s block. -/
theorem final_out (O : Out (F := Ideal)) (c : Dev nD) (G : Buf (Elt Ideal) ((c : Thread nD τ).loc main_v9))
    (hO : ∀ t y, O c t y = G (((cfg0.win 6).blk t).view.emb y)) : (dats m O 0 c).arrAt 6 cfg0.N = G := by
  refine (dats m O 0 c).arrAt_eq_of_covers 6 _ covers_out fun t hf y => ?_
  blk_simp
  rw [after0_6]
  exact hO t y

end Cert.KernelIdeal.Gen

end
-- ==== Proof.Codes.lean ====
/-
What the precondition says of the bytes: a code that is not a NaN is a real number, a scale byte is between 1 and 254.
-/
module

public import proofs.«01_k».proof.Proof.Gen.Pre_real_blocks
public import Idealize.ShloMosaic.PureOps.Ideal

@[expose] public section

noncomputable section

namespace Proof01k

open Idealize.ShloMosaic

/-- Every code but the two NaNs is a real number. -/
theorem code_real (w : BitVec 8) (h1 : w ≠ 127#8) (h2 : w ≠ 255#8) : ∃ r : ℝ, (Ideal.ofBits .fp8e4m3 w : EReal) = (r : EReal) := by
  have hn : ¬ ((w.extractLsb' 3 4).toNat = 15 ∧ (w.extractLsb' 0 3).toNat = 7) := by
    revert w; decide +kernel
  show ∃ r : ℝ, Ideal.e4m3fn w = (r : EReal)
  unfold Ideal.e4m3fn
  dsimp only
  rw [if_neg (by simpa using hn)]
  split_ifs <;> exact ⟨_, rfl⟩

theorem and_ne (w a b : BitVec 8) (h : IntOp.andi (IntOp.cmpi .ne w a) (IntOp.cmpi .ne w b) = 1#1) : w ≠ a ∧ w ≠ b := by
  have key : ∀ p q : Bool, BitVec.ofBool p &&& BitVec.ofBool q = 1#1 → p = true ∧ q = true := by decide
  have h' := key (w != a) (w != b) h
  exact ⟨by simpa using h'.1, by simpa using h'.2⟩

theorem scale_bounds (w : BitVec 8) (h : w ≠ 0#8 ∧ w ≠ 255#8) : 1 ≤ w.toNat ∧ w.toNat ≤ 254 := by
  obtain ⟨h1, h2⟩ := h
  revert w; decide +kernel

variable (a0 : IVec Cert.Pre_real_blocks.S3x640x28x128 8) (a1 : IVec Cert.Pre_real_blocks.S3x640x28x4 8) (a2 : IVec Cert.Pre_real_blocks.S3x640x2x128 8)
variable (a3 : IVec Cert.Pre_real_blocks.S3x640x2x4 8) (a4 : IVec Cert.Pre_real_blocks.S3x640x2x128 8) (a5 : IVec Cert.Pre_real_blocks.S3x20x2x128 8)

theorem pre_q (h : (Cert.Pre_real_blocks.fn (F := Ideal) a0 a1 a2 a3 a4 a5).1 = fun _ => 1#1) (i) : a0 i ≠ 127#8 ∧ a0 i ≠ 255#8 :=
  and_ne _ _ _ (congrFun h i)
theorem pre_qs (h : (Cert.Pre_real_blocks.fn (F := Ideal) a0 a1 a2 a3 a4 a5).2.1 = fun _ => 1#1) (i) : 1 ≤ (a1 i).toNat ∧ (a1 i).toNat ≤ 254 :=
  scale_bounds _ (and_ne _ _ _ (congrFun h i))
theorem pre_k (h : (Cert.Pre_real_blocks.fn (F := Ideal) a0 a1 a2 a3 a4 a5).2.2.1 = fun _ => 1#1) (i) : a2 i ≠ 127#8 ∧ a2 i ≠ 255#8 :=
  and_ne _ _ _ (congrFun h i)
theorem pre_ks (h : (Cert.Pre_real_blocks.fn (F := Ideal) a0 a1 a2 a3 a4 a5).2.2.2.1 = fun _ => 1#1) (i) : 1 ≤ (a3 i).toNat ∧ (a3 i).toNat ≤ 254 :=
  scale_bounds _ (and_ne _ _ _ (congrFun h i))
theorem pre_vs (h : (Cert.Pre_real_blocks.fn (F := Ideal) a0 a1 a2 a3 a4 a5).2.2.2.2 = fun _ => 1#1) (i) : 1 ≤ (a5 i).toNat ∧ (a5 i).toNat ≤ 254 :=
  scale_bounds _ (and_ne _ _ _ (congrFun h i))

end Proof01k

end
-- ==== Proof.Words.lean ====
/-
Scale words as numbers, and the layout operations of the body read at an index, with floats as extended reals.
-/
module

public import Idealize.ShloMosaic.Lib.ValueIdx
public import Idealize.ShloMosaic.Lib.ValueIdxCoords
public import Idealize.ShloMosaic.Lib.ValueLayout
public import Idealize.ShloMosaic.Lib.MatmulPlain
public import Idealize.ShloMosaic.Lib.BitcastPair
public import Idealize.ShloMosaic.Lib.KernelVsHost.SublaneAllReduce
public import proofs.«01_k».proof.Proof.Model

@[expose] public section

set_option maxRecDepth 8192

noncomputable section

namespace Proof01k

open Idealize.ShloMosaic Idealize.ShloMosaic.ValueIdx

/-! ### Words -/

/-- The word that carries a scale byte in both its bf16 halves. -/
def word (b : BitVec 8) : BitVec 32 := IntOp.ori (IntOp.shli .vector (b.setWidth 32) 23#32) (IntOp.shli .vector (b.setWidth 32) 7#32)

/-- A half of a scale word. -/
def half (b : BitVec 8) : BitVec 16 := b.setWidth 16 <<< 7

theorem word_half (b : BitVec 8) (p : Fin 2) : (word b).extractLsb' (16 * p.val) 16 = half b := by
  revert b p; decide +kernel

theorem pow2w_apply (x : IVec Q4x640 8) (j : Q4x640.Idx) : pow2w x j = word (x j) := rfl

/-- A number as a scale byte's two: the real `2 ^ (b - 127)`. -/
def pw (b : ℕ) : ℝ := (2 : ℝ) ^ ((b : ℤ) - 127)

theorem pw_pos (b : ℕ) : 0 < pw b := zpow_pos (by norm_num) _

theorem half_fields (b : BitVec 8) : (half b).extractLsb' 15 1 = 0#1 ∧ ((half b).extractLsb' 7 8).toNat = b.toNat ∧ ((half b).extractLsb' 0 7).toNat = 0 := by
  revert b; decide +kernel

theorem shl23_fields (b : BitVec 8) : (IntOp.shli .vector (b.setWidth 32) 23#32).extractLsb' 31 1 = 0#1
    ∧ ((IntOp.shli .vector (b.setWidth 32) 23#32).extractLsb' 23 8).toNat = b.toNat
    ∧ ((IntOp.shli .vector (b.setWidth 32) 23#32).extractLsb' 0 23).toNat = 0 := by
  revert b; decide +kernel

theorem ieee_pw (m : ℕ) {w : ℕ} (x : BitVec w) {b : ℕ} (ha : x.extractLsb' (8 + m) 1 = 0#1) (hb : (x.extractLsb' m 8).toNat = b)
    (hc : (x.extractLsb' 0 m).toNat = 0) (h1 : 1 ≤ b) (h2 : b ≤ 254) : Ideal.ieee 8 m x = (pw b : EReal) := by
  unfold Ideal.ieee
  simp only [ha, hb, hc]
  rw [if_neg (by norm_num; omega), if_neg (by omega)]
  refine EReal.coe_eq_coe_iff.mpr ?_
  rw [if_neg (by decide), pw, zpow_sub₀ two_ne_zero, zpow_natCast]
  norm_num
  field_simp

theorem ofBits_half {b : BitVec 8} (h1 : 1 ≤ b.toNat) (h2 : b.toNat ≤ 254) : Ideal.ofBits .bf16 (half b) = (pw b.toNat : EReal) := by
  obtain ⟨ha, hb, hc⟩ := half_fields b
  exact ieee_pw 7 _ ha hb hc h1 h2

theorem ofBits_shl23 {b : BitVec 8} (h1 : 1 ≤ b.toNat) (h2 : b.toNat ≤ 254) :
    Ideal.ofBits .f32 (IntOp.shli .vector (b.setWidth 32) 23#32) = (pw b.toNat : EReal) := by
  obtain ⟨ha, hb, hc⟩ := shl23_fields b
  exact ieee_pw 23 _ ha hb hc h1 h2

/-! ### Layout at an index -/

theorem rows16_half (x : IVec Q8x128 32) (r : Fin 16) (l : Fin 128) :
    bitcast Q16x128 16 x (by decide) (ix2 r l) = (x (ix2 ⟨r.val / 2, by omega⟩ l)).extractLsb' (16 * (r.val % 2)) 16 := by
  rw [Idealize.ShloMosaic.bitcast_32_16]
  congr 2
  funext a
  fin_cases a <;> rfl

theorem rows16_apply (w : IVec Q1x128 32) (r : Fin 16) (l : Fin 128) {b : BitVec 8} (h : w (ix2 0 l) = word b) :
    (rows16 w : FVec Ideal Q16x128 .bf16) (ix2 r l) = Ideal.ofBits .bf16 (half b) := by
  show Ideal.ofBits .bf16 (bitcast Q16x128 16 (broadcastTo Q8x128 (shapeCast Q1x128 w (by decide)) (by decide)) (by decide) (ix2 r l)) = _
  rw [rows16_half, broadcastTo_1b_ab_apply, shapeCast_self, h]
  exact congrArg _ (word_half b ⟨r.val % 2, Nat.mod_lt _ (by decide)⟩)

theorem tr_apply {α : Type} (x : Q128x128.Idx → α) (a b : Fin 128) : tr x (ix2 a b) = x (ix2 b a) := transpose_ix2_apply x _ a b

theorem cat8_apply (r : Fin 4 → FVec Ideal Q16x128 .bf16) (d l : Fin 128) :
    cat8 r (ix2 d l) = r ⟨d.val / 32, by omega⟩ (ix2 ⟨d.val % 16, by omega⟩ l) := by
  have := concatenate_ofFn_apply (t := Q128x128) (s₁ := Q16x128) 0 (N := 8) (fun k : Fin 8 => r ⟨k.val / 2, by omega⟩) c8 rfl 16 rfl (ix2 d l)
    ⟨d.val / 16, by omega⟩ rfl (ix2 ⟨d.val % 16, by omega⟩ l) rfl (by intro b hb; fin_cases b; exact absurd rfl hb; rfl)
  refine Eq.trans this ?_
  congr 2
  show d.val / 16 / 2 = d.val / 32
  omega

theorem cat4_apply {α : Type} (r : Fin 4 → Q32x128.Idx → α) (d l : Fin 128) :
    cat4 r (ix2 d l) = r ⟨d.val / 32, by omega⟩ (ix2 ⟨d.val % 32, by omega⟩ l) :=
  concatenate_ofFn_apply (t := Q128x128) (s₁ := Q32x128) 0 (N := 4) r c4 rfl 32 rfl (ix2 d l)
    ⟨d.val / 32, by omega⟩ rfl (ix2 ⟨d.val % 32, by omega⟩ l) rfl (by intro b hb; fin_cases b; exact absurd rfl hb; rfl)

theorem cat4s_apply {α : Type} (r : Fin 4 → Q8x128.Idx → α) (d : Fin 32) (l : Fin 128) :
    cat4s r (ix2 d l) = r ⟨d.val / 8, by omega⟩ (ix2 ⟨d.val % 8, by omega⟩ l) :=
  concatenate_ofFn_apply (t := Q32x128) (s₁ := Q8x128) 0 (N := 4) r c4s rfl 8 rfl (ix2 d l)
    ⟨d.val / 8, by omega⟩ rfl (ix2 ⟨d.val % 8, by omega⟩ l) rfl (by intro b hb; fin_cases b; exact absurd rfl hb; rfl)

theorem cat2w_apply {α : Type} (w : Q16x128.Idx → α) (d : Fin 32) (l : Fin 128) :
    concatenate Q32x128 0 [⟨Q16x128, w⟩, ⟨Q16x128, w⟩] c2w (ix2 d l) = w (ix2 ⟨d.val % 16, by omega⟩ l) :=
  concatenate_ofFn_apply (t := Q32x128) (s₁ := Q16x128) 0 (N := 2) (fun _ => w) c2w rfl 16 rfl (ix2 d l)
    ⟨d.val / 16, by omega⟩ rfl (ix2 ⟨d.val % 16, by omega⟩ l) rfl (by intro b hb; fin_cases b; exact absurd rfl hb; rfl)

theorem slice_apply {α : Type} {n0 n1 m0 m1 : ℕ} (o0 o1 : ℕ) (x : (⟨2, ![n0, n1]⟩ : Shape).Idx → α)
    (h : (⟨2, ![n0, n1]⟩ : Shape).Slices ![o0, o1] ⟨2, ![m0, m1]⟩) (a : Fin m0) (b : Fin m1) (h0 : o0 + a.val < n0) (h1 : o1 + b.val < n1) :
    extractStridedSlice ⟨2, ![m0, m1]⟩ ![o0, o1] x h (ix2 a b) = x (ix2 ⟨o0 + a.val, h0⟩ ⟨o1 + b.val, h1⟩) :=
  extractStridedSlice_apply _ x h _ _ (by intro a; fin_cases a <;> rfl)

theorem cast4_apply {α : Type} {a b : ℕ} (y : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ y h (ix2 i j) = y (ix4 0 0 i j) := by
  unfold shapeCast
  rw [reshapeEquiv_ix2_11ab]
  rfl

end Proof01k

end
-- ==== Proof.Lanes.lean ====
/-
The causal mask of a tile: block `j` is masked at the lanes whose query comes before the key.
-/
module

public import proofs.«01_k».proof.Proof.Words

@[expose] public section

set_option maxRecDepth 8192

noncomputable section

namespace Proof01k

open Idealize.ShloMosaic Idealize.ShloMosaic.ValueIdx

/-- The segment of a lane. -/
def seg (l : Fin 128) : Fin 4 := ⟨l.val / 32, by omega⟩

theorem laneMod_apply (u : Fin 8) (l : Fin 128) : laneMod (ix2 u l) = BitVec.ofNat 32 (l.val % 32) := by
  revert u l; decide +kernel

theorem laneDiv_apply (u : Fin 8) (l : Fin 128) : laneDiv (ix2 u l) = BitVec.ofNat 32 (l.val / 32) := by
  revert u l; decide +kernel

theorem sub_apply (u : Fin 8) (l : Fin 128) : sub (ix2 u l) = BitVec.ofNat 32 u.val := by
  revert u l; decide +kernel

/-- The query position of a lane of a tile. -/
def tPos (i : Fin 70) (l : Fin 128) : Fin 640 := ⟨32 * (tileC i (seg l)).val + l.val % 32, by have := (tileC i (seg l)).isLt; omega⟩

theorem limSeg_apply (i : Fin 70) (j : ℕ) (s : Fin 4) (x : IVec Q8x128 32) (u : Fin 8) (l : Fin 128) :
    limSeg i j s x (ix2 u l) = if seg l = s then x (ix2 u l) + offW (tileC i s).val j else x (ix2 u l) := by
  unfold limSeg
  split_ifs with h1 h2 h2
  · have : offW (tileC i s).val j = 0#32 := by rw [h1]; simp [offW]
    rw [this, BitVec.add_zero]
  · rfl
  · show Scalar.select (IntOp.cmpi .eq (laneDiv (ix2 u l)) (BitVec.ofNat 32 s.val)) (x (ix2 u l) + offW (tileC i s).val j) (x (ix2 u l)) = _
    rw [laneDiv_apply, ← h2]
    have : IntOp.cmpi .eq (BitVec.ofNat 32 (l.val / 32)) (BitVec.ofNat 32 (seg l).val) = 1#1 := by simp [IntOp.cmpi, seg]
    rw [this]; rfl
  · show Scalar.select (IntOp.cmpi .eq (laneDiv (ix2 u l)) (BitVec.ofNat 32 s.val)) (x (ix2 u l) + offW (tileC i s).val j) (x (ix2 u l)) = _
    rw [laneDiv_apply]
    have : IntOp.cmpi .eq (BitVec.ofNat 32 (l.val / 32)) (BitVec.ofNat 32 s.val) = 0#1 := by
      have hs := s.isLt
      have : ¬ (BitVec.ofNat 32 (l.val / 32) = BitVec.ofNat 32 s.val) := fun hh => h2 (by
        have := congrArg BitVec.toNat hh
        simp only [BitVec.toNat_ofNat] at this
        apply Fin.ext
        show l.val / 32 = s.val
        omega)
      show BitVec.ofBool (_ == _) = 0#1
      rw [beq_eq_false_iff_ne.mpr this]; rfl
    rw [this]; rfl

theorem lim_apply (i : Fin 70) (j : ℕ) (u : Fin 8) (l : Fin 128) :
    lim i j (ix2 u l) = BitVec.ofNat 32 (l.val % 32) + offW (tileC i (seg l)).val j := by
  unfold lim
  simp only [limSeg_apply, laneMod_apply]
  generalize seg l = s
  fin_cases s <;> simp

/-- What the mask compares, as numbers. -/
theorem mask_iff (p c x j : ℕ) (hp : p < 32) (hc : c < 20) (hj : j < 20) (hx : x < 32) :
    (BitVec.ofNat 32 x).sle (BitVec.ofNat 32 p + offW c j) = decide (32 * j + x ≤ 32 * c + p) := by
  have h1 : (BitVec.ofNat 32 x).toInt = x := by
    rw [BitVec.toInt_eq_toNat_cond, BitVec.toNat_ofNat]; split_ifs <;> omega
  have h2 : (BitVec.ofNat 32 p + offW c j).toInt = (p : ℤ) + 32 * c - 32 * j := by
    unfold offW
    split_ifs with h
    · rw [BitVec.toInt_eq_toNat_cond, BitVec.toNat_add, BitVec.toNat_ofNat, BitVec.toNat_ofNat]; split_ifs <;> omega
    · rw [BitVec.toInt_eq_toNat_cond, BitVec.toNat_add, BitVec.toNat_ofNat, BitVec.toNat_ofNat]; split_ifs <;> omega
  rw [BitVec.sle, h1, h2]
  congr 1
  apply propext
  omega

theorem lo_le (i : Fin 70) (s : Fin 4) : lo i ≤ (tileC i s).val := by
  show lo i ≤ if i.val % 7 < 3 then 2 * (i.val / 7) else if i.val % 7 < 6 then 2 * (i.val / 7) + 1 else 2 * (i.val / 7) + s.val / 2
  unfold lo; split_ifs <;> omega

theorem tileC_le (i : Fin 70) (s : Fin 4) : (tileC i s).val ≤ ntp i := by
  show (if i.val % 7 < 3 then 2 * (i.val / 7) else if i.val % 7 < 6 then 2 * (i.val / 7) + 1 else 2 * (i.val / 7) + s.val / 2) ≤ ntp i
  have := s.isLt
  unfold ntp; split_ifs <;> omega

theorem tPos_lt (i : Fin 70) (l : Fin 128) : (tPos i l).val < 32 * (ntp i + 1) := by
  have := tileC_le i (seg l)
  show 32 * (tileC i (seg l)).val + l.val % 32 < _
  omega

/-- A lane of the second tile of a pair. -/
def lane2 (a : Fin 2) (l : Fin 128) : Fin 256 := ⟨128 * a.val + l.val, by omega⟩

/-- A masked block of scores. -/
theorem blk_apply {n : ℕ} (s : FVec Ideal (Qn n 256) .f32) (a : Fin 2) (i : Fin 70) (j : ℕ) (hj : j < n) (hn : n ≤ 20) (u : Fin 4) (v : Fin 8) (l : Fin 128) :
    blk s a i j hj u (ix2 v l) = if 32 * j + 8 * u.val + v.val ≤ (tPos i l).val
      then s (ix2 ⟨32 * j + 8 * u.val + v.val, by omega⟩ (lane2 a l)) else ⊥ := by
  have hsl : extractStridedSlice Q8x128 ![32 * j + 8 * u.val, 128 * a.val] s
      ⟨rfl, Fin.forall_fin_two.mpr ⟨by have := u.isLt; show 32 * j + 8 * u.val + 8 ≤ 32 * n; omega, by have := a.isLt; show 128 * a.val + 128 ≤ 256; omega⟩⟩
      (ix2 v l) = s (ix2 ⟨32 * j + 8 * u.val + v.val, by omega⟩ (lane2 a l)) :=
    slice_apply (32 * j + 8 * u.val) (128 * a.val) s _ v l (by omega) (by omega)
  unfold blk
  have hc := (tileC i (seg l)).isLt
  have ht : (tPos i l).val = 32 * (tileC i (seg l)).val + l.val % 32 := rfl
  split_ifs with h1 h2 h2
  · show Scalar.select (IntOp.cmpi .sle (sub (ix2 v l) + BitVec.ofNat 32 (8 * u.val)) (lim i j (ix2 v l))) _ _ = _
    have : IntOp.cmpi .sle (sub (ix2 v l) + BitVec.ofNat 32 (8 * u.val)) (lim i j (ix2 v l)) = 1#1 := by
      rw [lim_apply, sub_apply, ← BitVec.ofNat_add]
      show BitVec.ofBool _ = _
      rw [mask_iff _ _ _ _ (by omega) hc (by omega) (by omega), decide_eq_true (by omega)]; rfl
    rw [this]
    exact hsl
  · show Scalar.select (IntOp.cmpi .sle (sub (ix2 v l) + BitVec.ofNat 32 (8 * u.val)) (lim i j (ix2 v l))) _ _ = _
    have : IntOp.cmpi .sle (sub (ix2 v l) + BitVec.ofNat 32 (8 * u.val)) (lim i j (ix2 v l)) = 0#1 := by
      rw [lim_apply, sub_apply, ← BitVec.ofNat_add]
      show BitVec.ofBool _ = _
      rw [mask_iff _ _ _ _ (by omega) hc (by omega) (by omega), decide_eq_false (by omega)]; rfl
    rw [this]
    show Ideal.ieee 8 23 0xFF800000#32 = ⊥
    unfold Ideal.ieee
    rw [if_pos (by decide), if_pos (by decide), if_pos (by decide)]
  · exact hsl
  · exfalso
    have := lo_le i (seg l)
    omega

end Proof01k

end
-- ==== Proof.Soft.lean ====
/-
Softmax weights as reals, and the kernel's way to them: sums and maxima over blocks and sublanes.
-/
module

public import proofs.«01_k».proof.Proof.Lanes

@[expose] public section

set_option maxRecDepth 8192

noncomputable section

namespace Proof01k

open Idealize.ShloMosaic Idealize.ShloMosaic.ValueIdx Idealize.ShloMosaic.SublaneAllReduce

/-- A sum of reals as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The unnormalised weight of key `r` for the query at position `t`, from the scores `x`. -/
def wt (x : ℕ → ℝ) (t r : ℕ) : ℝ := if r ≤ t then Real.exp (x r) else 0

/-- The sum of the weights. -/
def wtSum (x : ℕ → ℝ) (t : ℕ) : ℝ := ∑ r ∈ Finset.range 640, wt x t r

/-- The weight of key `r` for the query at position `t`. -/
def att (x : ℕ → ℝ) (t r : ℕ) : ℝ := wt x t r / wtSum x t

theorem wt_nonneg (x : ℕ → ℝ) (t r : ℕ) : 0 ≤ wt x t r := by
  unfold wt; split_ifs
  · exact (Real.exp_pos _).le
  · exact le_refl _

theorem wtSum_pos (x : ℕ → ℝ) (t : ℕ) : 0 < wtSum x t :=
  Finset.sum_pos' (fun _ _ => wt_nonneg _ _ _) ⟨0, by simp, by unfold wt; rw [if_pos (Nat.zero_le _)]; exact Real.exp_pos _⟩

theorem att_nonneg (x : ℕ → ℝ) (t r : ℕ) : 0 ≤ att x t r := div_nonneg (wt_nonneg _ _ _) (wtSum_pos _ _).le

theorem att_zero (x : ℕ → ℝ) {t r : ℕ} (h : t < r) : att x t r = 0 := by
  unfold att wt; rw [if_neg (by omega), zero_div]

theorem wtSum_eq (x : ℕ → ℝ) {t n : ℕ} (h : t < n) (hn : n ≤ 640) : wtSum x t = ∑ r ∈ Finset.range n, wt x t r := by
  refine (Finset.sum_subset (Finset.range_subset_range.mpr hn) fun r _ hr => ?_).symm
  unfold wt
  rw [if_neg (by simp at hr; omega)]

/-- A masked score, less a shift, to the power of two. -/
theorem exp2_shift (x : ℕ → ℝ) (t r : ℕ) (M : ℝ) :
    Ideal.exp2 ((if r ≤ t then ((x r * (Real.log 2)⁻¹ : ℝ) : EReal) else ⊥) - (M : EReal)) = ((wt x t r * Real.exp (-(M * Real.log 2)) : ℝ) : EReal) := by
  unfold wt
  split_ifs with h
  · rw [← EReal.coe_sub, Ideal.exp2_coe, ← Real.exp_add]
    refine congrArg _ ?_
    show (2 : ℝ) ^ (_ : ℝ) = _
    rw [Real.rpow_def_of_pos two_pos]
    congr 1
    have : Real.log 2 ≠ 0 := (Real.log_pos one_lt_two).ne'
    field_simp
    ring
  · rw [EReal.bot_sub, zero_mul]; rfl

/-! ### Folds over blocks and sublanes -/

theorem foldF_add (n : ℕ) (f : Fin (n + 1) → FVec Ideal Q8x128 .f32) (i : Q8x128.Idx) : foldF addf n f i = ∑ j, f j i := by
  induction n with
  | zero => simp [foldF]
  | succ n ih =>
    rw [Fin.sum_univ_castSucc, ← ih]
    rfl

theorem foldF_max_ne_top (n : ℕ) (f : Fin (n + 1) → FVec Ideal Q8x128 .f32) (i : Q8x128.Idx) (h : ∀ j, f j i ≠ ⊤) : foldF maximumf n f i ≠ ⊤ := by
  induction n with
  | zero => exact h 0
  | succ n ih =>
    have h1 := ih (fun j => f j.castSucc) fun j => h _
    have h2 := h (Fin.last _)
    exact (max_lt (lt_top_iff_ne_top.mpr h1) (lt_top_iff_ne_top.mpr h2)).ne

theorem foldF_max_ge (n : ℕ) (f : Fin (n + 1) → FVec Ideal Q8x128 .f32) (i : Q8x128.Idx) (j : Fin (n + 1)) : f j i ≤ foldF maximumf n f i := by
  induction n with
  | zero =>
    obtain rfl : j = 0 := Fin.ext (by have := j.isLt; show j.val = 0; omega)
    exact le_refl _
  | succ n ih =>
    refine Fin.lastCases ?_ (fun j => ?_) j
    · exact le_max_right _ _
    · exact (ih (fun j => f j.castSucc) j).trans (le_max_left _ _)

theorem add4_apply (b : Fin 4 → FVec Ideal Q8x128 .f32) (i : Q8x128.Idx) : add4 b i = ∑ u, b u i := by
  rw [Fin.sum_univ_four]
  show (b 0 i + b 1 i) + (b 2 i + b 3 i) = _
  ac_rfl

theorem allSub_add (x : FVec Ideal Q8x128 .f32) (v : Fin 8) (l : Fin 128) : allSub addf x (ix2 v l) = ∑ k, x (ix2 k l) := by
  have := sublaneAllReduce_apply (α := EReal) (· + ·) (by decide) x v l
  refine Eq.trans this ?_
  rw [Fin.sum_univ_eight]
  unfold combine8
  ac_rfl

theorem allSub_max (x : FVec Ideal Q8x128 .f32) (v : Fin 8) (l : Fin 128) : allSub maximumf x (ix2 v l) = combine8 (max : EReal → EReal → EReal) fun k => x (ix2 k l) :=
  sublaneAllReduce_apply (α := EReal) max (by decide) x v l

/-- The maximum over a column is the same real in all its rows when no entry is ⊤ and the first is not ⊥. -/
theorem allSub_max_real (x : FVec Ideal Q8x128 .f32) (l : Fin 128) (h : ∀ k, x (ix2 k l) ≠ ⊤) (h0 : x (ix2 0 l) ≠ ⊥) :
    ∃ M : ℝ, ∀ v, allSub maximumf x (ix2 v l) = (M : EReal) := by
  have ht : combine8 (max : EReal → EReal → EReal) (fun k => x (ix2 k l)) ≠ ⊤ := by
    unfold combine8
    have h' : ∀ k, (x (ix2 k l) : EReal) < ⊤ := fun k => lt_top_iff_ne_top.mpr (h k)
    refine ne_of_lt ?_
    simp only [max_lt_iff]
    refine ⟨⟨⟨h' _, h' _⟩, h' _, h' _⟩, ⟨h' _, h' _⟩, h' _, h' _⟩
  have hb : combine8 (max : EReal → EReal → EReal) (fun k => x (ix2 k l)) ≠ ⊥ := by
    have hle : (x (ix2 0 l) : EReal) ≤ combine8 (max : EReal → EReal → EReal) (fun k => x (ix2 k l)) := by
      unfold combine8
      exact (le_max_left _ _).trans ((le_max_left _ _).trans (le_max_left _ _))
    intro hh
    rw [hh] at hle
    exact h0 (le_bot_iff.mp hle)
  exact ⟨_, fun v => (allSub_max x v l).trans (EReal.coe_toReal ht hb).symm⟩

/-- A sum over the rows of blocks of 32, block by block, then by eights, then by sublane. -/
theorem sum_blocks (n : ℕ) (f : ℕ → ℝ) :
    ∑ v : Fin 8, ∑ j : Fin n, ∑ u : Fin 4, f (32 * j.val + 8 * u.val + v.val) = ∑ r ∈ Finset.range (32 * n), f r := by
  rw [Finset.sum_comm]
  have h32 : ∀ j : ℕ, ∑ v : Fin 8, ∑ u : Fin 4, f (32 * j + 8 * u.val + v.val) = ∑ k ∈ Finset.range 32, f (32 * j + k) := by
    intro j
    simp only [Fin.sum_univ_eight, Fin.sum_univ_four, Finset.sum_range_succ, Finset.sum_range_zero]
    simp only [Fin.isValue, Fin.val_zero, Fin.val_one, Fin.val_two, Fin.reduceFinMk, show ((3 : Fin 4) : ℕ) = 3 from rfl, show ((3 : Fin 8) : ℕ) = 3 from rfl,
      show ((4 : Fin 8) : ℕ) = 4 from rfl, show ((5 : Fin 8) : ℕ) = 5 from rfl, show ((6 : Fin 8) : ℕ) = 6 from rfl, show ((7 : Fin 8) : ℕ) = 7 from rfl,
      Nat.mul_zero, Nat.add_zero, Nat.add_assoc, Nat.reduceMul, Nat.reduceAdd]
    ring
  simp only [h32]
  rw [Finset.sum_fin_eq_sum_range]
  induction n with
  | zero => simp
  | succ n ih =>
    rw [Finset.sum_range_succ, show 32 * (n + 1) = 32 * n + 32 by ring, Finset.sum_range_add, ← ih, dif_pos (Nat.lt_succ_self n)]
    congr 1
    refine Finset.sum_congr rfl fun j hj => ?_
    have := Finset.mem_range.mp hj
    rw [dif_pos (by omega), dif_pos this]

/-! ### The exponent field and its two powers of two -/

theorem efStep_snd (s : ℕ) (p : FVec Ideal Q8x128 .f32 × IVec Q8x128 32) (i : Q8x128.Idx) :
    (efStep s p).2 i = p.2 i - BitVec.ofNat 32 s ∨ (efStep s p).2 i = p.2 i := by
  show Scalar.select _ (p.2 i - BitVec.ofNat 32 s) (p.2 i) = _ ∨ Scalar.select _ (p.2 i - BitVec.ofNat 32 s) (p.2 i) = _
  unfold Scalar.select
  split_ifs
  · exact .inl rfl
  · exact .inr rfl

theorem expField_le (x : FVec Ideal Q8x128 .f32) (i : Q8x128.Idx) : (expField x i).toNat ≤ 127 := by
  unfold expField
  rcases efStep_snd 1 _ i with h | h <;> rw [h] <;> clear h <;>
  rcases efStep_snd 2 _ i with h | h <;> rw [h] <;> clear h <;>
  rcases efStep_snd 4 _ i with h | h <;> rw [h] <;> clear h <;>
  rcases efStep_snd 8 _ i with h | h <;> rw [h] <;> clear h <;>
  rcases efStep_snd 16 _ i with h | h <;> rw [h] <;> clear h <;>
  rcases efStep_snd 32 _ i with h | h <;> rw [h] <;> clear h <;>
  rcases efStep_snd 64 _ i with h | h <;> rw [h] <;> clear h <;> (simp only [broadcast]; decide)

/-- The two words of an exponent field, as scale bytes. -/
theorem up_down (e : BitVec 32) (h : e.toNat ≤ 127) : ∃ b b' : BitVec 8, (1 ≤ b.toNat ∧ b.toNat ≤ 254) ∧ (1 ≤ b'.toNat ∧ b'.toNat ≤ 254)
    ∧ b.toNat + b'.toNat = 254
    ∧ Scalar.select (IntOp.cmpi .eq e 0#32) 127#32 (e + 1#32) = b.setWidth 32 ∧ Scalar.select (IntOp.cmpi .eq e 0#32) 127#32 (253#32 - e) = b'.setWidth 32 := by
  have key : ∀ k : Fin 128, let b : BitVec 8 := if k.val = 0 then 127#8 else BitVec.ofNat 8 (k.val + 1)
      let b' : BitVec 8 := if k.val = 0 then 127#8 else BitVec.ofNat 8 (253 - k.val)
      (1 ≤ b.toNat ∧ b.toNat ≤ 254) ∧ (1 ≤ b'.toNat ∧ b'.toNat ≤ 254) ∧ b.toNat + b'.toNat = 254
      ∧ Scalar.select (IntOp.cmpi .eq (BitVec.ofNat 32 k.val) 0#32) 127#32 (BitVec.ofNat 32 k.val + 1#32) = b.setWidth 32
      ∧ Scalar.select (IntOp.cmpi .eq (BitVec.ofNat 32 k.val) 0#32) 127#32 (253#32 - BitVec.ofNat 32 k.val) = b'.setWidth 32 := by decide +kernel
  have := key ⟨e.toNat, by omega⟩
  simp only [BitVec.ofNat_toNat, BitVec.setWidth_eq] at this
  exact ⟨_, _, this⟩

theorem pw_mul {a b : ℕ} (h : a + b = 254) : pw a * pw b = 1 := by
  unfold pw
  rw [← zpow_add₀ two_ne_zero, show ((a : ℤ) - 127 + ((b : ℤ) - 127)) = 0 by omega, zpow_zero]

/-- What the scale rows of a block hold: a factor and the word of its inverse power of two, the product being `x`. -/
def FE (f : EReal) (w : BitVec 32) (x : ℝ) : Prop :=
  ∃ b b' : BitVec 8, (1 ≤ b.toNat ∧ b.toNat ≤ 254) ∧ b'.toNat + b.toNat = 254 ∧ f = ((x * pw b'.toNat : ℝ) : EReal) ∧ w = word b

theorem facV_exW (inv y : FVec Ideal Q8x128 .f32) (i : Q8x128.Idx) {x : ℝ} (hx : inv i = (x : EReal)) :
    FE (facV inv (expField y) i) (exW (expField y) i) x := by
  obtain ⟨b, b', hb, hb', hs, hd, hu⟩ := up_down _ (expField_le y i)
  refine ⟨b, b', hb, by omega, ?_, ?_⟩
  · show inv i * Ideal.ofBits .f32 (IntOp.shli .vector (Scalar.select (IntOp.cmpi .eq (expField y i) 0#32) 127#32 (253#32 - expField y i)) 23#32) = _
    rw [hu, ofBits_shl23 hb'.1 hb'.2, hx, EReal.coe_mul]
  · show IntOp.ori (IntOp.shli .vector (Scalar.select (IntOp.cmpi .eq (expField y i) 0#32) 127#32 (expField y i + 1#32)) 23#32)
      (IntOp.shli .vector (Scalar.select (IntOp.cmpi .eq (expField y i) 0#32) 127#32 (expField y i + 1#32)) 7#32) = _
    rw [hd]; rfl

end Proof01k

end
-- ==== Proof.RefMath.lean ====
/-
The reference's arithmetic, one query row at a time: its softmax is the attention weights, and its rounding of the weights to
scaled eight-bit codes, which over the extended reals only divides by a power of two and multiplies by it again, leaves them as they are.
-/
module

public import proofs.«01_k».proof.Proof.Soft
public import Idealize.ShloMosaic.Lib.IdealHost

@[expose] public section

noncomputable section

namespace Proof01k

open Idealize.ShloMosaic

theorem ofBits_neg_inf : Ideal.ofBits .f32 0xFF800000#32 = ⊥ := by simp [Ideal.ofBits, Ideal.ieee]

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul, -EReal.coe_neg]; norm_num

/-- The word of 1/448, a little above it. -/
theorem ofBits_inv448 : ∃ c : ℝ, Ideal.ofBits .f32 0x3B124925#32 = (c : EReal) ∧ 0 < c ∧ 1 ≤ c * 448 := by
  refine ⟨9586981 / 4294967296, ?_, by norm_num, by norm_num⟩
  simp [Ideal.ofBits, Ideal.ieee, -EReal.coe_mul]; norm_num

/-- The maximum of real numbers and ⊥, one of them real, is real. -/
theorem fold_max_real {n : ℕ} (f : Fin n → EReal) (ht : ∀ i, f i ≠ ⊤) (j : Fin n) (hj : f j ≠ ⊥) :
    ∃ M : ℝ, Finset.univ.fold max (⊥ : EReal) f = (M : EReal) := by
  have h1 : Finset.univ.fold max (⊥ : EReal) f ≠ ⊤ :=
    ((Finset.fold_max_lt (c := (⊤ : EReal))).mpr ⟨bot_lt_top, fun x _ => lt_top_iff_ne_top.mpr (ht x)⟩).ne
  have h2 : f j ≤ Finset.univ.fold max (⊥ : EReal) f := (Finset.le_fold_max (c := f j)).mpr (.inr ⟨j, Finset.mem_univ _, le_refl _⟩)
  have h3 : Finset.univ.fold max (⊥ : EReal) f ≠ ⊥ := fun h => hj (le_bot_iff.mp (h ▸ h2))
  exact ⟨_, (EReal.coe_toReal h1 h3).symm⟩

theorem le_fold {n : ℕ} (f : Fin n → EReal) (j : Fin n) : f j ≤ Finset.univ.fold max (⊥ : EReal) f :=
  (Finset.le_fold_max (c := f j)).mpr (.inr ⟨j, Finset.mem_univ _, le_refl _⟩)

/-- A masked score. -/
def lgt (x : ℕ → ℝ) (t r : ℕ) : EReal := if r ≤ t then (x r : EReal) else ⊥

theorem exp_lgt (x : ℕ → ℝ) (t r : ℕ) (M : ℝ) : Ideal.exp (lgt x t r - (M : EReal)) = ((wt x t r * Real.exp (-M) : ℝ) : EReal) := by
  unfold lgt wt
  split_ifs
  · rw [← EReal.coe_sub, Ideal.exp_coe, ← Real.exp_add]; rfl
  · rw [EReal.bot_sub, Ideal.exp_bot, zero_mul, EReal.coe_zero]

/-- The softmax of a masked row. -/
theorem softmax_row (x : ℕ → ℝ) (t r : ℕ) :
    Ideal.div (Ideal.exp (lgt x t r - Finset.univ.fold max (⊥ : EReal) fun k : Fin 640 => lgt x t k.val))
      (∑ k : Fin 640, Ideal.exp (lgt x t k.val - Finset.univ.fold max (⊥ : EReal) fun k : Fin 640 => lgt x t k.val)) = ((att x t r : ℝ) : EReal) := by
  obtain ⟨M, hM⟩ := fold_max_real (fun k : Fin 640 => lgt x t k.val) (fun k => by
    beta_reduce; unfold lgt; split_ifs; exact EReal.coe_ne_top _; exact bot_ne_top) 0 (by
    show lgt x t 0 ≠ ⊥; unfold lgt; rw [if_pos (Nat.zero_le _)]; exact EReal.coe_ne_bot _)
  rw [hM, exp_lgt, Finset.sum_congr rfl fun k _ => exp_lgt x t k.val M, ← coe_sum]
  have hs : ∑ k : Fin 640, wt x t k.val * Real.exp (-M) = wtSum x t * Real.exp (-M) := by
    rw [← Finset.sum_mul, Fin.sum_univ_eq_sum_range (fun k => wt x t k) 640]; rfl
  have h1 := (wtSum_pos x t).ne'
  have h2 := (Real.exp_pos (-M)).ne'
  rw [hs, Ideal.div_coe (mul_ne_zero h1 h2), ← EReal.coe_mul]
  congr 1
  unfold att
  field_simp

/-- The exponent the reference gives a block whose greatest weight is `a`. -/
def blkExp (a : EReal) : EReal :=
  Scalar.select (BitVec.ofBool (decide (a = 0))) (0 : EReal)
    (Ideal.liftRound Int.floor (Ideal.div (Ideal.log (a * Ideal.ofBits .f32 0x3B124925#32)) ((Real.log 2 : ℝ) : EReal)) + 1)

/-- A block's weight, scaled, clamped and scaled back, is itself. -/
theorem quantise_row (p : Fin 32 → ℝ) (hp : ∀ i, 0 ≤ p i) (i : Fin 32) {a : EReal}
    (ha : a = Finset.univ.fold max (⊥ : EReal) fun k : Fin 32 => max (p k : EReal) (-(p k : EReal))) :
    min ((448 : ℝ) : EReal) (max ((-448 : ℝ) : EReal) ((p i : EReal) * Ideal.exp2 (0 - blkExp a))) * Ideal.exp2 (blkExp a) = (p i : EReal) := by
  have habs : (fun k : Fin 32 => max (p k : EReal) (-(p k : EReal))) = fun k => (p k : EReal) := funext fun k =>
    max_eq_left (by rw [← EReal.coe_neg]; exact EReal.coe_le_coe_iff.mpr (by have := hp k; linarith))
  rw [habs] at ha
  obtain ⟨A, hA⟩ := fold_max_real (fun k : Fin 32 => (p k : EReal)) (fun k => EReal.coe_ne_top _) i (EReal.coe_ne_bot _)
  have hle : p i ≤ A := EReal.coe_le_coe_iff.mp ((le_fold (fun k : Fin 32 => (p k : EReal)) i).trans_eq hA)
  rw [hA] at ha
  subst ha
  have hpi := hp i
  obtain ⟨E, hE, hb⟩ : ∃ E : ℝ, blkExp (A : EReal) = (E : EReal) ∧ p i * Real.rpow 2 (-E) ≤ 448 := by
    unfold blkExp Scalar.select
    by_cases h0 : A = 0
    · subst h0
      refine ⟨0, by simp, ?_⟩
      have : p i = 0 := le_antisymm hle hpi
      rw [this, zero_mul]; norm_num
    · have hApos : 0 < A := lt_of_le_of_ne (hpi.trans hle) (Ne.symm h0)
      obtain ⟨c, hc, hc0, hc1⟩ := ofBits_inv448
      have hAc : 0 < A * c := mul_pos hApos hc0
      have hl2 : 0 < Real.log 2 := Real.log_pos (by norm_num)
      have hsel : BitVec.ofBool (decide ((A : EReal) = 0)) ≠ 1#1 := by
        rw [decide_eq_false (by exact_mod_cast h0)]; decide
      rw [if_neg (show ¬ BitVec.ofBool (decide ((A : EReal) = 0)) = 1 from hsel), hc, ← EReal.coe_mul, Ideal.log_coe, if_neg (not_le.mpr hAc), Ideal.div_coe hl2.ne', ← EReal.coe_mul, Ideal.liftRound_coe]
      refine ⟨(⌊Real.log (A * c) * (1 / Real.log 2)⌋ : ℝ) + 1, by rw [EReal.coe_add, EReal.coe_one], ?_⟩
      have hfl := Int.lt_floor_add_one (Real.log (A * c) * (1 / Real.log 2))
      generalize ((⌊Real.log (A * c) * (1 / Real.log 2)⌋ : ℝ) + 1) = E at hfl ⊢
      have h1 : Real.log (A * c) < E * Real.log 2 := by
        rw [mul_one_div, div_lt_iff₀ hl2] at hfl; exact hfl
      have h2 : A * c < Real.rpow 2 E := by
        show A * c < (2 : ℝ) ^ E
        rw [Real.rpow_def_of_pos (by norm_num), ← Real.log_lt_iff_lt_exp hAc, mul_comm (Real.log 2)]; exact h1
      have hr : Real.rpow 2 (-E) * Real.rpow 2 E = 1 := by
        show (2 : ℝ) ^ (-E) * (2 : ℝ) ^ E = 1
        rw [← Real.rpow_add (by norm_num), neg_add_cancel, Real.rpow_zero]
      have hrp : 0 < Real.rpow 2 (-E) := Real.rpow_pos_of_pos (by norm_num) _
      have h3 : (A * Real.rpow 2 (-E)) * c ≤ 1 := by
        calc (A * Real.rpow 2 (-E)) * c = Real.rpow 2 (-E) * (A * c) := by ring
          _ ≤ Real.rpow 2 (-E) * Real.rpow 2 E := mul_le_mul_of_nonneg_left h2.le hrp.le
          _ = 1 := hr
      have h4 : p i * Real.rpow 2 (-E) ≤ A * Real.rpow 2 (-E) := mul_le_mul_of_nonneg_right hle hrp.le
      have h5 : 0 ≤ A * Real.rpow 2 (-E) := mul_nonneg hApos.le hrp.le
      refine h4.trans ?_
      by_contra hcon
      push Not at hcon
      nlinarith
  have hr : Real.rpow 2 (-E) * Real.rpow 2 E = 1 := by
    show (2 : ℝ) ^ (-E) * (2 : ℝ) ^ E = 1
    rw [← Real.rpow_add (by norm_num), neg_add_cancel, Real.rpow_zero]
  have hrp : 0 < Real.rpow 2 (-E) := Real.rpow_pos_of_pos (by norm_num) _
  rw [hE, zero_sub, ← EReal.coe_neg, Ideal.exp2_coe, Ideal.exp2_coe, ← EReal.coe_mul,
    max_eq_right (EReal.coe_le_coe_iff.mpr (by have := mul_nonneg hpi hrp.le; linarith)), min_eq_right (EReal.coe_le_coe_iff.mpr hb), ← EReal.coe_mul]
  congr 1
  rw [mul_assoc, hr, mul_one]

/-- A scale byte decoded. -/
theorem decode_byte (b : BitVec 8) : Ideal.exp2 ((((IntOp.subi (b.setWidth 32) 127#32).toInt : ℝ)) : EReal) = ((pw b.toNat : ℝ) : EReal) := by
  have h : (IntOp.subi (b.setWidth 32) 127#32).toInt = (b.toNat : ℤ) - 127 := by revert b; decide +kernel
  rw [h, Ideal.exp2_coe]
  congr 1
  show (2 : ℝ) ^ ((((b.toNat : ℤ) - 127 : ℤ)) : ℝ) = _
  rw [Real.rpow_intCast]
  rfl

end Proof01k

end
-- ==== Proof.Mem.lean ====
/-
Rectangles of a buffer at an index: what a load through one reads, and a buffer after a store through one.
-/
module

public import Idealize.ShloMosaic.Lib.ValueIdx
public import proofs.«01_k».proof.Proof.Triple

@[expose] public section

noncomputable section

namespace Proof01k

open Idealize.ShloMosaic Idealize.ShloMosaic.ValueIdx

variable {F : FTy → Type} [FloatOps F] {e : EltTy}

section Two
variable {N0 N1 o0 o1 n0 n1 : ℕ} {hb : ∀ a, (![o0, o1] : Fin 2 → ℕ) a + (![n0, n1] : Fin 2 → ℕ) a ≤ (⟨2, ![N0, N1]⟩ : Shape).size a}

abbrev rect2 (hb : ∀ a, (![o0, o1] : Fin 2 → ℕ) a + (![n0, n1] : Fin 2 → ℕ) a ≤ (⟨2, ![N0, N1]⟩ : Shape).size a) : Rect ⟨2, ![N0, N1]⟩ :=
  Rect.unit (s := ⟨2, ![N0, N1]⟩) ![o0, o1] ![n0, n1] hb

theorem idx2 (a : Fin n0) (b : Fin n1) (i : Fin N0) (j : Fin N1) (hi : i.val = o0 + a.val) (hj : j.val = o1 + b.val) :
    (rect2 hb).toLoadRect.idx (ix2 a b) = ix2 i j := by
  funext d
  match d with
  | ⟨0, _⟩ => exact Fin.ext (by show o0 + 1 * a.val = i.val; omega)
  | ⟨1, _⟩ => exact Fin.ext (by show o1 + 1 * b.val = j.val; omega)

variable {w : (⟨2, ![n0, n1]⟩ : Shape).Idx → Elt F e} {X X' : (⟨2, ![N0, N1]⟩ : Shape).Idx → Elt F e}

theorem upd2_in (h : Upd (rect2 hb) w X X') (a : Fin n0) (b : Fin n1) (i : Fin N0) (j : Fin N1) (hi : i.val = o0 + a.val) (hj : j.val = o1 + b.val) :
    X' (ix2 i j) = w (ix2 a b) := by
  rw [← idx2 (hb := hb) a b i j hi hj]
  exact h.1 (ix2 a b)

theorem upd2_out (h : Upd (rect2 hb) w X X') (i : Fin N0) (j : Fin N1) (ho : i.val < o0 ∨ o0 + n0 ≤ i.val ∨ j.val < o1 ∨ o1 + n1 ≤ j.val) :
    X' (ix2 i j) = X (ix2 i j) := by
  refine h.2 _ fun hm => ?_
  rw [Rect.mem_set_unit] at hm
  have h0 : o0 ≤ i.val ∧ i.val < o0 + n0 := hm 0
  have h1 : o1 ≤ j.val ∧ j.val < o1 + n1 := hm 1
  omega

end Two

section Three
variable {N0 N1 N2 o0 o1 o2 n0 n1 n2 : ℕ} {hb : ∀ a, (![o0, o1, o2] : Fin 3 → ℕ) a + (![n0, n1, n2] : Fin 3 → ℕ) a ≤ (⟨3, ![N0, N1, N2]⟩ : Shape).size a}

abbrev rect3 (hb : ∀ a, (![o0, o1, o2] : Fin 3 → ℕ) a + (![n0, n1, n2] : Fin 3 → ℕ) a ≤ (⟨3, ![N0, N1, N2]⟩ : Shape).size a) :
    Rect ⟨3, ![N0, N1, N2]⟩ :=
  Rect.unit (s := ⟨3, ![N0, N1, N2]⟩) ![o0, o1, o2] ![n0, n1, n2] hb

theorem idx3 (a : Fin n0) (b : Fin n1) (c : Fin n2) (i : Fin N0) (j : Fin N1) (k : Fin N2) (hi : i.val = o0 + a.val) (hj : j.val = o1 + b.val)
    (hk : k.val = o2 + c.val) : (rect3 hb).toLoadRect.idx (ix3 a b c) = ix3 i j k := by
  funext d
  match d with
  | ⟨0, _⟩ => exact Fin.ext (by show o0 + 1 * a.val = i.val; omega)
  | ⟨1, _⟩ => exact Fin.ext (by show o1 + 1 * b.val = j.val; omega)
  | ⟨2, _⟩ => exact Fin.ext (by show o2 + 1 * c.val = k.val; omega)

variable {w : (⟨3, ![n0, n1, n2]⟩ : Shape).Idx → Elt F e} {X X' : (⟨3, ![N0, N1, N2]⟩ : Shape).Idx → Elt F e}

theorem upd3_in (h : Upd (rect3 hb) w X X') (a : Fin n0) (b : Fin n1) (c : Fin n2) (i : Fin N0) (j : Fin N1) (k : Fin N2)
    (hi : i.val = o0 + a.val) (hj : j.val = o1 + b.val) (hk : k.val = o2 + c.val) : X' (ix3 i j k) = w (ix3 a b c) := by
  rw [← idx3 (hb := hb) a b c i j k hi hj hk]
  exact h.1 (ix3 a b c)

theorem upd3_out (h : Upd (rect3 hb) w X X') (i : Fin N0) (j : Fin N1) (k : Fin N2)
    (ho : i.val < o0 ∨ o0 + n0 ≤ i.val ∨ j.val < o1 ∨ o1 + n1 ≤ j.val ∨ k.val < o2 ∨ o2 + n2 ≤ k.val) : X' (ix3 i j k) = X (ix3 i j k) := by
  refine h.2 _ fun hm => ?_
  rw [Rect.mem_set_unit] at hm
  have h0 : o0 ≤ i.val ∧ i.val < o0 + n0 := hm 0
  have h1 : o1 ≤ j.val ∧ j.val < o1 + n1 := hm 1
  have h2 : o2 ≤ k.val ∧ k.val < o2 + n2 := hm 2
  omega

end Three

section Four
variable {N0 N1 N2 N3 o0 o1 o2 o3 n0 n1 n2 n3 : ℕ}
  {hb : ∀ a, (![o0, o1, o2, o3] : Fin 4 → ℕ) a + (![n0, n1, n2, n3] : Fin 4 → ℕ) a ≤ (⟨4, ![N0, N1, N2, N3]⟩ : Shape).size a}

theorem idx4 (a : Fin n0) (b : Fin n1) (c : Fin n2) (d : Fin n3) (i : Fin N0) (j : Fin N1) (k : Fin N2) (l : Fin N3)
    (hi : i.val = o0 + a.val) (hj : j.val = o1 + b.val) (hk : k.val = o2 + c.val) (hl : l.val = o3 + d.val) :
    (Rect.unit (s := ⟨4, ![N0, N1, N2, N3]⟩) ![o0, o1, o2, o3] ![n0, n1, n2, n3] hb).toLoadRect.idx (ix4 a b c d) = ix4 i j k l := by
  funext x
  match x with
  | ⟨0, _⟩ => exact Fin.ext (by show o0 + 1 * a.val = i.val; omega)
  | ⟨1, _⟩ => exact Fin.ext (by show o1 + 1 * b.val = j.val; omega)
  | ⟨2, _⟩ => exact Fin.ext (by show o2 + 1 * c.val = k.val; omega)
  | ⟨3, _⟩ => exact Fin.ext (by show o3 + 1 * d.val = l.val; omega)

end Four

end Proof01k

end
-- ==== Proof.PTile.lean ====
/-
One tile's probabilities: what the softmax of a tile leaves is the softmax weights.
-/
module

public import Idealize.ShloMosaic.Lib.IdealHost
public import proofs.«01_k».proof.Proof.Soft
public import proofs.«01_k».proof.Proof.Mem

@[expose] public section

set_option maxRecDepth 8192

noncomputable section

namespace Proof01k

open Idealize.ShloMosaic Idealize.ShloMosaic.TcCoe Idealize.SL.Sem Idealize.ShloMosaic.ValueIdx

variable {nD : ℕ} {τ : Topo} {sig : RefSig} {Λ : Labels}
variable {defs : Defs nD τ sig (Elt Ideal) Λ} {𝒱 : Variants} {c : Dev nD} {R : Refs sig} {X : Ins Ideal}

/-- The buffers that outlive a tile are as they were. -/
def Keep (σ σ' : St Ideal) : Prop := σ'.o = σ.o ∧ σ'.kp = σ.kp ∧ σ'.vt = σ.vt ∧ σ'.sc = σ.sc

theorem Keep.rfl' {σ : St Ideal} : Keep σ σ := ⟨rfl, rfl, rfl, rfl⟩

theorem Keep.trans {σ σ' σ'' : St Ideal} (h : Keep σ σ') (h' : Keep σ' σ'') : Keep σ σ'' :=
  ⟨h'.1.trans h.1, h'.2.1.trans h.2.1, h'.2.2.1.trans h.2.2.1, h'.2.2.2.trans h.2.2.2⟩

/-! ### The blocks -/

/-- The scores of tile `a` of a pair are those of `y`, in units of the logarithm of two. -/
def Scores {n : ℕ} (s : FVec Ideal (Qn n 256) .f32) (a : Fin 2) (y : Fin 128 → ℕ → ℝ) : Prop :=
  ∀ (r : Fin (32 * n)) (l : Fin 128), s (ix2 r (lane2 a l)) = ((y l r.val * (Real.log 2)⁻¹ : ℝ) : EReal)

section Tile
variable {n : ℕ} {s : FVec Ideal (Qn n 256) .f32} {a : Fin 2} {i : Fin 70} {y : Fin 128 → ℕ → ℝ}

theorem blk_val (hs : Scores s a y) (hn : n ≤ 20) (j : ℕ) (hj : j < n) (u : Fin 4) (v : Fin 8) (l : Fin 128) :
    blk s a i j hj u (ix2 v l) = if 32 * j + 8 * u.val + v.val ≤ (tPos i l).val
      then ((y l (32 * j + 8 * u.val + v.val) * (Real.log 2)⁻¹ : ℝ) : EReal) else ⊥ := by
  rw [blk_apply _ _ _ _ _ hn]
  split_ifs
  · exact hs _ _
  · rfl

theorem max4_ne (hs : Scores s a y) (hn : n ≤ 20) (j : ℕ) (hj : j < n) (v : Fin 8) (l : Fin 128) :
    (max4 fun u => blk s a i j hj u) (ix2 v l) ≠ ⊤ ∧ (j = 0 → v = 0 → (max4 fun u => blk s a i j hj u) (ix2 v l) ≠ ⊥) := by
  have hb : ∀ u, (blk s a i j hj u (ix2 v l) : EReal) < ⊤ := fun u => by
    rw [blk_val hs hn]
    split_ifs
    · exact EReal.coe_lt_top _
    · exact bot_lt_top
  have he : (max4 fun u => blk s a i j hj u) (ix2 v l) = max (max (blk s a i j hj 0 (ix2 v l) : EReal) (blk s a i j hj 1 (ix2 v l)))
    (max (blk s a i j hj 2 (ix2 v l)) (blk s a i j hj 3 (ix2 v l))) := rfl
  rw [he]
  refine ⟨(max_lt (max_lt (hb _) (hb _)) (max_lt (hb _) (hb _))).ne, fun h0 hv => ?_⟩
  have h1 : (⊥ : EReal) < blk s a i j hj 0 (ix2 v l) := by
    rw [blk_val hs hn, if_pos (by subst h0 hv; exact Nat.zero_le _)]
    exact EReal.bot_lt_coe _
  exact (h1.trans_le ((le_max_left _ _).trans (le_max_left _ _))).ne'

/-- The largest scores of the first `k` blocks are stored. -/
def PmInv (a : Fin 2) (σ₀ : St Ideal) (k : ℕ) (σ : St Ideal) : Prop :=
  Keep σ₀ σ ∧ ∀ (j : ℕ) (v : Fin 8) (l : Fin 128) (p : Fin 224), j < k → p.val = 9 * j + v.val →
    (σ.pm (ix3 a p l) : EReal) ≠ ⊤ ∧ (j = 0 → v = 0 → (σ.pm (ix3 a p l) : EReal) ≠ ⊥)

theorem pm_step {σ₀ σ : St Ideal} (k : Fin 20) (w : FVec Ideal Q8x128 .f32)
    (hw : ∀ v l, (w (ix2 v l) : EReal) ≠ ⊤ ∧ (k.val = 0 → v = 0 → (w (ix2 v l) : EReal) ≠ ⊥)) (hI : PmInv a σ₀ k.val σ) {hx} :
    Tr defs 𝒱 c R X (put R.pm (pmRect a k) ne_L3a hx (shapeCast ⟨3, ![1, 8, 128]⟩ w (by decide))) σ fun _ σ' => PmInv a σ₀ (k.val + 1) σ' := by
  refine Tr_put (fun X' => { σ with pm := X' }) wr_pm fun X' hU => ⟨hI.1, fun j v l p hj hp => ?_⟩
  rcases Nat.lt_succ_iff_lt_or_eq.mp hj with hj | hj
  · have : X' (ix3 a p l) = σ.pm (ix3 a p l) := upd3_out hU a p l (by omega)
    show (X' (ix3 a p l) : EReal) ≠ ⊤ ∧ (j = 0 → v = 0 → (X' (ix3 a p l) : EReal) ≠ ⊥)
    rw [this]
    exact hI.2 j v l p hj hp
  · have : X' (ix3 a p l) = w (ix2 v l) :=
      (upd3_in hU 0 v l a p l (by simp) (by omega) (by simp)).trans (shapeCast_ab_1ab_apply w _ 0 v l)
    show (X' (ix3 a p l) : EReal) ≠ ⊤ ∧ (j = 0 → v = 0 → (X' (ix3 a p l) : EReal) ≠ ⊥)
    rw [this, hj]
    exact hw v l

theorem slt_small (v k : Fin 8) : IntOp.cmpi .slt (BitVec.ofNat 32 v.val) (BitVec.ofNat 32 k.val) = BitVec.ofBool (decide (v.val < k.val)) := by
  revert v k; decide +kernel

theorem bm_tr {σ₀ σ : St Ideal} (hI : PmInv a σ₀ (ntp i + 1) σ) (g : Fin (ntp i / 8 + 1)) :
    Tr defs 𝒱 c R X (bmStep R a i g) σ fun x σ' => (∀ v l, (x (ix2 v l) : EReal) ≠ ⊤ ∧ (g.val = 0 → v = 0 → (x (ix2 v l) : EReal) ≠ ⊥)) ∧ σ' = σ := by
  have hg := g.isLt
  have hnt := ntp_lt i
  unfold bmStep
  refine Tr_bind (Tr_collect (P := fun u x => ∀ (v : Fin 8) (l : Fin 128) (p : Fin 224), p.val = 72 * g.val + u.val + 9 * v.val →
    x (ix2 v l) = σ.pm (ix3 a p l)) (fun σ' => σ' = σ) rfl fun u σ' hσ => ?_) fun x σ' ⟨hx, hσ⟩ => Tr_pure ⟨?_, hσ⟩
  · refine Tr_bind (Tr_ld (Q := fun y σ'' => (y = fun i => σ'.pm ((pmLoad a (Gx g) u).idx i)) ∧ σ'' = σ') rd_pm ⟨rfl, rfl⟩) fun y σ'' ⟨hy, hσ'⟩ =>
      Tr_pure ⟨fun v l p hp => ?_, hσ'.trans hσ⟩
    refine (shapeCast_1ab_ab_apply y _ v l).trans ?_
    rw [hy, hσ]
    refine congrArg σ.pm (funext fun d => Fin.ext ?_)
    match d with
    | ⟨0, _⟩ => show a.val + 1 * 0 = a.val; omega
    | ⟨1, _⟩ => show (72 * g.val + u.val) + 9 * v.val = p.val; omega
    | ⟨2, _⟩ => show 0 + 1 * l.val = l.val; omega
  · have hf : ∀ (v : Fin 8) (l : Fin 128), 8 * g.val + v.val ≤ ntp i →
        (foldF maximumf 7 x (ix2 v l) : EReal) ≠ ⊤ ∧ (g.val = 0 → v = 0 → (foldF maximumf 7 x (ix2 v l) : EReal) ≠ ⊥) := fun v l hv => by
      have hp : ∀ u : Fin 8, 72 * g.val + u.val + 9 * v.val < 224 := fun u => by omega
      refine ⟨foldF_max_ne_top _ _ _ fun u => ?_, fun h0 hv0 => ?_⟩
      · rw [hx u v l ⟨_, hp u⟩ rfl]
        exact (hI.2 (8 * g.val + v.val) u l _ (by omega) (by show 72 * g.val + u.val + 9 * v.val = _; omega)).1
      · intro hb
        have := foldF_max_ge 7 x (ix2 v l) 0
        rw [hb, hx 0 v l ⟨_, hp 0⟩ rfl] at this
        subst hv0
        exact (hI.2 0 0 l _ (by omega) (by show 72 * g.val + 0 + 9 * 0 = _; rw [h0]; rfl)).2 rfl rfl (le_bot_iff.mp this)
    intro v l
    split_ifs with hm
    · have hc : IntOp.cmpi .slt (sub (ix2 v l)) (BitVec.ofNat 32 (ntp i + 1 - 8 * g.val)) = BitVec.ofBool (decide (v.val < ntp i + 1 - 8 * g.val)) := by
        rw [sub_apply]; exact slt_small v ⟨_, hm⟩
      have he : select (cmpi .slt sub (broadcast Q8x128 (BitVec.ofNat 32 (ntp i + 1 - 8 * g.val)))) (foldF maximumf 7 x)
          (broadcast Q8x128 (Scalar.ofBits .f32 0xFF800000#32)) (ix2 v l)
          = Scalar.select (IntOp.cmpi .slt (sub (ix2 v l)) (BitVec.ofNat 32 (ntp i + 1 - 8 * g.val))) (foldF maximumf 7 x (ix2 v l)) (Ideal.ieee 8 23 0xFF800000#32) := rfl
      rw [he, hc]
      by_cases hv : v.val < ntp i + 1 - 8 * g.val
      · rw [decide_eq_true hv]
        exact hf v l (by omega)
      · rw [decide_eq_false hv]
        have hbot : Ideal.ieee 8 23 0xFF800000#32 = ⊥ := by
          unfold Ideal.ieee
          rw [if_pos (by decide), if_pos (by decide), if_pos (by decide)]
        show Ideal.ieee 8 23 0xFF800000#32 ≠ ⊤ ∧ (g.val = 0 → v = 0 → Ideal.ieee 8 23 0xFF800000#32 ≠ ⊥)
        rw [hbot]
        refine ⟨bot_ne_top, fun h0 hv0 => absurd ?_ hv⟩
        subst hv0
        show 0 < _
        omega
    · exact hf v l (by omega)

/-! ### The values -/

theorem invV_val {m : ℕ} (e : Fin (m + 1) → Fin 4 → FVec Ideal Q8x128 .f32) (w : ℕ → ℝ) (K : ℝ) (l : Fin 128)
    (he : ∀ j u v, e j u (ix2 v l) = ((w (32 * j.val + 8 * u.val + v.val) * K : ℝ) : EReal)) (h0 : (∑ r ∈ Finset.range (32 * (m + 1)), w r) * K ≠ 0)
    (v : Fin 8) : invV e (ix2 v l) = ((((∑ r ∈ Finset.range (32 * (m + 1)), w r) * K)⁻¹ : ℝ) : EReal) := by
  have hs : allSub addf (foldF addf m fun j => add4 (e j)) (ix2 v l) = (((∑ r ∈ Finset.range (32 * (m + 1)), w r) * K : ℝ) : EReal) := by
    rw [allSub_add]
    simp only [foldF_add, add4_apply, he]
    simp only [← coe_sum]
    rw [sum_blocks (m + 1) fun r => w r * K, Finset.sum_mul]
  show Ideal.div (Ideal.ofBits .f32 0x3F800000#32) (allSub addf (foldF addf m fun j => add4 (e j)) (ix2 v l)) = _
  rw [hs, Ideal.ofBits_one_f32, Ideal.div_coe h0, one_mul, one_div]

theorem pVal_val (e : Fin 4 → FVec Ideal Q8x128 .f32) (f : Vec Ideal ⟨3, ![1, 1, 128]⟩ .f32) (w : Vec Ideal ⟨3, ![1, 1, 128]⟩ .i32) (l : Fin 128)
    (E : ℕ → ℝ) (x : ℝ) (he : ∀ u v, e u (ix2 v l) = ((E (8 * u.val + v.val) : ℝ) : EReal)) (hf : FE (f (ix3 0 0 l)) (w (ix3 0 0 l)) x) (r : Fin 32) :
    pVal e f w (ix2 r l) = ((E r.val * x : ℝ) : EReal) := by
  obtain ⟨b, b', hb, hs, hf, hw⟩ := hf
  have h1 : (concatenate Q32x128 0 [⟨Q16x128, rows16 (F := Ideal) (shapeCast Q1x128 w (by decide))⟩, ⟨Q16x128, rows16 (F := Ideal) (shapeCast Q1x128 w (by decide))⟩] c2w) (ix2 r l)
      = (pw b.toNat : EReal) := by
    rw [cat2w_apply, rows16_apply (b := b) _ _ _ ((shapeCast_1ab_ab_apply w _ 0 l).trans hw), ofBits_half hb.1 hb.2]
  have h2 : ∀ v : Fin 8, broadcastTo Q8x128 (shapeCast Q1x128 (shapeCast Q1x128 f (by decide) : FVec Ideal Q1x128 .f32) (by decide) : FVec Ideal Q1x128 .f32) (by decide) (ix2 v l)
      = ((x * pw b'.toNat : ℝ) : EReal) := fun v => by
    rw [broadcastTo_1b_ab_apply, shapeCast_self]
    exact (shapeCast_1ab_ab_apply f _ 0 l).trans hf
  show (cat4s fun u => mulf (e u) (broadcastTo Q8x128 (shapeCast Q1x128 (shapeCast Q1x128 f (by decide) : FVec Ideal Q1x128 .f32) (by decide) : FVec Ideal Q1x128 .f32) (by decide)) : FVec Ideal Q32x128 .f32) (ix2 r l)
    * concatenate Q32x128 0 [⟨Q16x128, rows16 (F := Ideal) (shapeCast Q1x128 w (by decide))⟩, ⟨Q16x128, rows16 (F := Ideal) (shapeCast Q1x128 w (by decide))⟩] c2w (ix2 r l) = _
  rw [h1, cat4s_apply]
  show (e _ (ix2 _ l) * broadcastTo Q8x128 (shapeCast Q1x128 (shapeCast Q1x128 f (by decide) : FVec Ideal Q1x128 .f32) (by decide) : FVec Ideal Q1x128 .f32) (by decide) (ix2 _ l) : EReal) * _ = _
  rw [h2, he, ← EReal.coe_mul, ← EReal.coe_mul]
  congr 1
  have := pw_mul hs
  have hr : 8 * (r.val / 8) + r.val % 8 = r.val := Nat.div_add_mod _ _
  show E (8 * (r.val / 8) + r.val % 8) * (x * pw b'.toNat) * pw b.toNat = _
  rw [hr]
  linear_combination E r.val * x * this

theorem pCat_val {nt : ℕ} (hp : 0 < nt) (h : nt ≤ n) (f : Fin nt → FVec Ideal Q32x128 .bf16) (G : ℕ → ℝ) (l : Fin 128)
    (hf : ∀ j (r : Fin 32), f j (ix2 r l) = ((G (32 * j.val + r.val) : ℝ) : EReal)) (hG : ∀ r, 32 * nt ≤ r → G r = 0) (r : Fin (32 * n)) :
    pCat n hp h f (ix2 r l) = ((G r.val : ℝ) : EReal) := by
  unfold pCat
  split_ifs with h2
  · have hsum : ∀ k ≤ nt, ((((pList n f).take k).map (·.1)).map fun s => if h : s.rank = (Qn n 128).rank then s.size ((0 : Fin 2).cast h.symm) else 0).sum = 32 * k := by
      intro k hk
      have hlen : (((pList n f).take k).map (·.1)).length = k := by
        rw [List.length_map, List.length_take]
        unfold pList
        rw [List.length_append, List.length_ofFn]
        omega
      rw [List.sum_eq_card_nsmul _ 32, List.length_map, hlen, smul_eq_mul, Nat.mul_comm]
      intro z hz
      obtain ⟨sh, hsh, rfl⟩ := List.mem_map.mp hz
      obtain ⟨q, hq, rfl⟩ := List.mem_map.mp hsh
      unfold pList at hq
      rw [List.take_append_of_le_length (by rw [List.length_ofFn]; exact hk)] at hq
      obtain ⟨j, rfl⟩ := List.mem_ofFn.mp (List.mem_of_mem_take hq)
      rfl
    by_cases hr : r.val < 32 * nt
    · have hk : r.val / 32 < nt := by omega
      refine (concatenate_apply_piece (t := Qn n 128) (0 : Fin 2) (pList n f) (pList_concat hp h h2 f) (ix2 r l) (r.val / 32)
        (by unfold pList; rw [List.length_append, List.length_ofFn]; omega) Q32x128 (f ⟨r.val / 32, hk⟩)
        (by unfold pList; rw [List.getElem_append_left (by rw [List.length_ofFn]; exact hk), List.getElem_ofFn]) rfl (32 * (r.val / 32)) (hsum _ (by omega))
        (ix2 ⟨r.val % 32, Nat.mod_lt _ (by decide)⟩ l) (by intro b hb; fin_cases b; exact absurd rfl hb; rfl)
        (by show 32 * (r.val / 32) + r.val % 32 = r.val; omega)).trans ?_
      rw [hf]
      congr 2
      show 32 * (r.val / 32) + r.val % 32 = r.val
      omega
    · have hrn := r.isLt
      have hlt : nt < n := by omega
      refine (concatenate_apply_piece (t := Qn n 128) (0 : Fin 2) (pList n f) (pList_concat hp h h2 f) (ix2 r l) nt
        (by unfold pList; rw [List.length_append, List.length_ofFn, if_pos hlt]; simp) (Qn (n - nt) 128) (constant (Qn (n - nt) 128) .bf16 0x0000#16)
        (by unfold pList; simp [if_pos hlt]) rfl (32 * nt) (hsum _ (le_refl _))
        (ix2 ⟨r.val - 32 * nt, by omega⟩ l) (by intro b hb; fin_cases b; exact absurd rfl hb; rfl)
        (by show 32 * nt + (r.val - 32 * nt) = r.val; omega)).trans ?_
      rw [hG _ (by omega)]
      exact Ideal.ofBits_zero_bf16
  · obtain rfl : n = 1 := by omega
    refine Eq.trans ?_ ((hf ⟨0, hp⟩ r).trans ?_)
    · refine congrArg (f ⟨0, hp⟩) (funext fun d => ?_)
      match d with
      | ⟨0, _⟩ => rfl
      | ⟨1, _⟩ => rfl
    · congr 2
      show 32 * 0 + r.val = r.val
      omega

end Tile

/-! ### The tile -/

/-- The factors and words of the first `k` groups are stored. -/
def FacInv (a : Fin 2) (x : Fin 128 → ℝ) (σ₀ : St Ideal) (k : ℕ) (σ : St Ideal) : Prop :=
  Keep σ₀ σ ∧ ∀ (p : Fin 24) (l : Fin 128), p.val < 8 * k → FE (σ.fac (ix3 a p l)) (σ.ex (ix3 a p l)) (x l)

theorem fac_step {a : Fin 2} {x : Fin 128 → ℝ} {σ₀ σ : St Ideal} (k : Fin 3) (inv z : FVec Ideal Q8x128 .f32)
    (hinv : ∀ v l, inv (ix2 v l) = ((x l : ℝ) : EReal)) (hI : FacInv a x σ₀ k.val σ) {hx hx'} :
    Tr defs 𝒱 c R X (put R.fac (facRect a k) ne_L3a hx (shapeCast ⟨3, ![1, 8, 128]⟩ (facV inv (expField z)) (by decide)) >>= fun _ =>
      put R.ex (facRect a k) ne_L3a hx' (shapeCast ⟨3, ![1, 8, 128]⟩ (exW (expField z)) (by decide))) σ fun _ σ' => FacInv a x σ₀ (k.val + 1) σ' := by
  refine Tr_bind (Tr_put (Q := fun _ σ' => Upd (facRect a k) (shapeCast ⟨3, ![1, 8, 128]⟩ (facV inv (expField z)) (by decide)) σ.fac σ'.fac ∧ σ'.ex = σ.ex ∧ Keep σ σ')
    (fun X' => { σ with fac := X' }) wr_fac fun X' hU => ⟨hU, rfl, Keep.rfl'⟩) fun _ σ' ⟨hU, hex, hK⟩ => ?_
  refine Tr_put (fun X' => { σ' with ex := X' }) wr_ex fun X' hU' => ⟨hI.1.trans (hK.trans Keep.rfl'), fun p l hp => ?_⟩
  show FE (σ'.fac (ix3 a p l)) (X' (ix3 a p l)) (x l)
  by_cases hlt : p.val < 8 * k.val
  · rw [upd3_out hU a p l (by omega), upd3_out hU' a p l (by omega), hex]
    exact hI.2 p l hlt
  · have h1 := upd3_in hU 0 ⟨p.val - 8 * k.val, by omega⟩ l a p l (by simp) (by show p.val = 8 * k.val + (p.val - 8 * k.val); omega) (by simp)
    have h2 := upd3_in hU' 0 ⟨p.val - 8 * k.val, by omega⟩ l a p l (by simp) (by show p.val = 8 * k.val + (p.val - 8 * k.val); omega) (by simp)
    rw [h1, h2]
    have h3 := shapeCast_ab_1ab_apply (facV inv (expField z)) (by decide) 0 ⟨p.val - 8 * k.val, by omega⟩ l
    have h4 := shapeCast_ab_1ab_apply (exW (expField z)) (by decide) 0 ⟨p.val - 8 * k.val, by omega⟩ l
    have hg := facV_exW inv z (ix2 ⟨p.val - 8 * k.val, by omega⟩ l) (hinv _ l)
    rw [← h3, ← h4] at hg
    exact hg

/-- A tile's probabilities are the softmax weights of its scores. -/
theorem pTile_tr {n : ℕ} {s : FVec Ideal (Qn n 256) .f32} {a : Fin 2} {i : Fin 70} {y : Fin 128 → ℕ → ℝ} (h : ntp i + 1 ≤ n) (hs : Scores s a y)
    (hn : n ≤ 20) (σ : St Ideal) : Tr defs 𝒱 c R X (pTile R s a i h) σ fun p σ' =>
      (∀ (r : Fin (32 * n)) (l : Fin 128), p (ix2 r l) = ((att (y l) (tPos i l).val r.val : ℝ) : EReal)) ∧ Keep σ σ' := by
  have hnt := ntp_lt i
  unfold pTile
  refine Tr_bind (Tr_forN (PmInv a σ) ⟨Keep.rfl', fun j v l p hj => absurd hj (by omega)⟩ fun j σ' hI =>
    pm_step (Jx j) _ (fun v l => max4_ne hs hn j.val _ v l) hI) fun _ σ₁ hI => ?_
  refine Tr_bind (Tr_collect (P := fun g x => ∀ v l, (x (ix2 v l) : EReal) ≠ ⊤ ∧ (g.val = 0 → v = 0 → (x (ix2 v l) : EReal) ≠ ⊥)) (fun σ' => σ' = σ₁) rfl
    fun g σ' hσ => by subst hσ; exact bm_tr hI g) fun bm σ₂ ⟨hbm, hσ₂⟩ => ?_
  have hM : ∀ l, ∃ M : ℝ, ∀ v, allSub maximumf (foldF maximumf (ntp i / 8) bm) (ix2 v l) = (M : EReal) := fun l =>
    allSub_max_real _ l (fun k => foldF_max_ne_top _ _ _ fun g => (hbm g k l).1) fun hb => by
      have := foldF_max_ge (ntp i / 8) bm (ix2 0 l) 0
      rw [hb] at this
      exact (hbm 0 0 l).2 rfl rfl (le_bot_iff.mp this)
  choose M hM using hM
  dsimp only
  generalize allSub maximumf (foldF maximumf (ntp i / 8) bm) = m at hM ⊢
  obtain ⟨e, hE⟩ : ∃ e : Fin (ntp i + 1) → Fin 4 → FVec Ideal Q8x128 .f32, e = fun j u => exp2 (subf (blk s a i j.val (lt_of_lt_of_le j.isLt h) u) m) := ⟨_, rfl⟩
  rw [← hE]
  have he : ∀ (j : Fin (ntp i + 1)) (u : Fin 4) (v : Fin 8) (l : Fin 128), e j u (ix2 v l)
        = ((wt (y l) (tPos i l).val (32 * j.val + 8 * u.val + v.val) * Real.exp (-(M l * Real.log 2)) : ℝ) : EReal) := fun j u v l => by
    rw [hE]
    show Ideal.exp2 (blk s a i j.val (lt_of_lt_of_le j.isLt h) u (ix2 v l) - m (ix2 v l)) = _
    rw [hM, blk_val hs hn]
    exact exp2_shift _ _ _ _
  have hinv : ∀ (v : Fin 8) (l : Fin 128), invV e (ix2 v l) = (((wtSum (y l) (tPos i l).val * Real.exp (-(M l * Real.log 2)))⁻¹ : ℝ) : EReal) := fun v l => by
    have hw := wtSum_eq (y l) (tPos_lt i l) (by omega)
    have := invV_val e (wt (y l) (tPos i l).val) (Real.exp (-(M l * Real.log 2))) l (fun j u v => he j u v l)
      (by rw [← hw]; exact (mul_pos (wtSum_pos _ _) (Real.exp_pos _)).ne') v
    rw [this, hw]
  generalize invV e = inv at hinv ⊢
  refine Tr_bind (Tr_forN (FacInv a (fun l => (wtSum (y l) (tPos i l).val * Real.exp (-(M l * Real.log 2)))⁻¹) σ) ⟨hσ₂ ▸ hI.1, fun p l hp => absurd hp (by omega)⟩ fun g σ' hF =>
    fac_step (Gx g) inv _ hinv hF) fun _ σ₃ hF => ?_
  refine Tr_bind (Tr_collect (P := fun j p => ∀ (r : Fin 32) (l : Fin 128), p (ix2 r l) = ((att (y l) (tPos i l).val (32 * j.val + r.val) : ℝ) : EReal))
    (fun σ' => σ' = σ₃) rfl fun j σ' hσ => ?_) fun p σ' ⟨hp, hσ⟩ => Tr_pure ⟨fun r l => ?_, hσ ▸ hF.1⟩
  · have hj := j.isLt
    refine Tr_bind (Tr_ld (Q := fun f σ'' => (f = fun i => σ'.fac ((facRow a (Jx j)).toLoadRect.idx i)) ∧ σ'' = σ') rd_fac ⟨rfl, rfl⟩) fun f σ'' ⟨hf, h1⟩ => ?_
    subst h1
    refine Tr_bind (Tr_ld (Q := fun w σ₅ => (w = fun i => σ''.ex ((facRow a (Jx j)).toLoadRect.idx i)) ∧ σ₅ = σ'') rd_ex ⟨rfl, rfl⟩) fun w σ₅ ⟨hw, h1⟩ => ?_
    subst h1
    refine Tr_pure ⟨fun r l => ?_, hσ⟩
    subst hσ
    have hix := idx3 (hb := (inb₃ (by have := a.isLt; show a.val + 1 ≤ 2; omega) (by have := (Jx j).isLt; show (Jx j).val + 1 ≤ 24; omega) (by show 0 + 128 ≤ 128; omega) :
      ∀ d, (![a.val, (Jx j).val, 0] : Fin 3 → ℕ) d + (![1, 1, 128] : Fin 3 → ℕ) d ≤ (Q2x24x128).size d)) 0 0 l a ⟨j.val, by omega⟩ l (by simp) (by simp [Jx]) (by simp)
    have := pVal_val (e j) f w l (fun k => wt (y l) (tPos i l).val (32 * j.val + k) * Real.exp (-(M l * Real.log 2))) _
      (fun u v => by rw [he, Nat.add_assoc])
      (by
        have := hF.2 ⟨j.val, by omega⟩ l (by show j.val < 8 * (ntp i / 8 + 1); omega)
        rw [hf, hw]
        have e1 : (facRow a (Jx j)).toLoadRect.idx (ix3 0 0 l) = ix3 a ⟨j.val, by omega⟩ l := hix
        beta_reduce
        rw [e1]
        exact this) r
    rw [hE] at this
    refine this.trans ?_
    congr 1
    have h1 : Real.exp (-(M l * Real.log 2)) ≠ 0 := (Real.exp_pos _).ne'
    have h2 := (wtSum_pos (y l) (tPos i l).val).ne'
    unfold att
    field_simp
  · exact pCat_val (Nat.succ_pos _) h p (att (y l) (tPos i l).val) l (fun j r => hp j r l) (fun r hr => att_zero _ ((tPos_lt i l).trans_le hr)) r

end Proof01k

end
-- ==== Proof.Setup.lean ====
/-
What the body prepares in its scratch buffers: scaled keys, values and the query scale words of each tile.
-/
module

public import proofs.«01_k».proof.Proof.PTile

@[expose] public section

set_option maxRecDepth 8192

noncomputable section

namespace Proof01k

open Idealize.ShloMosaic Idealize.ShloMosaic.TcCoe Idealize.SL.Sem Idealize.ShloMosaic.ValueIdx

variable {nD : ℕ} {τ : Topo} {sig : RefSig} {Λ : Labels}
variable {defs : Defs nD τ sig (Elt Ideal) Λ} {𝒱 : Variants} {c : Dev nD} {R : Refs sig} {X : Ins Ideal}
variable {Q : Fin 14 → Fin 640 → Fin 128 → ℝ} {K : Fin 640 → Fin 128 → ℝ}

/-- Queries and keys are real numbers and no scale byte is 0 or 255. -/
structure Good (X : Ins Ideal) (Q : Fin 14 → Fin 640 → Fin 128 → ℝ) (K : Fin 640 → Fin 128 → ℝ) : Prop where
  q : ∀ h t d, X.q (ix4 0 h t d) = (Q h t d : EReal)
  k : ∀ t d, X.k (ix4 0 0 t d) = (K t d : EReal)
  qs : ∀ h e t, 1 ≤ (X.qs (ix4 0 h e t) : BitVec 8).toNat ∧ (X.qs (ix4 0 h e t) : BitVec 8).toNat ≤ 254
  ks : ∀ e t, 1 ≤ (X.ks (ix4 0 0 e t) : BitVec 8).toNat ∧ (X.ks (ix4 0 0 e t) : BitVec 8).toNat ≤ 254
  vs : ∀ b d, 1 ≤ (X.vs (ix4 0 0 b d) : BitVec 8).toNat ∧ (X.vs (ix4 0 0 b d) : BitVec 8).toNat ≤ 254

/-- The quarter of a coordinate of a head. -/
def qr (d : Fin 128) : Fin 4 := ⟨d.val / 32, by omega⟩
/-- The block of a position. -/
def kb (t : Fin 640) : Fin 20 := ⟨t.val / 32, by omega⟩

/-- A scaled query. -/
def qv (X : Ins Ideal) (Q : Fin 14 → Fin 640 → Fin 128 → ℝ) (h : Fin 14) (t : Fin 640) (d : Fin 128) : ℝ :=
  Q h t d * pw (X.qs (ix4 0 h (qr d) t) : BitVec 8).toNat
/-- A scaled key. -/
def kv (X : Ins Ideal) (K : Fin 640 → Fin 128 → ℝ) (t : Fin 640) (d : Fin 128) : ℝ :=
  K t d * pw (X.ks (ix4 0 0 (qr d) t) : BitVec 8).toNat
/-- A scaled value. -/
def vv (X : Ins Ideal) (t : Fin 640) (d : Fin 128) : EReal := X.v (ix4 0 0 t d) * ((pw (X.vs (ix4 0 0 (kb t) d) : BitVec 8).toNat : ℝ) : EReal)

/-- The factor on the logits, in units of the logarithm of two. -/
def lsR : ℝ := (Real.sqrt 128)⁻¹ * (Real.log 2)⁻¹

/-- The prepared keys: scaled, then nothing left over. -/
def kpv (X : Ins Ideal) (K : Fin 640 → Fin 128 → ℝ) (t : Fin 640) (e : Fin 256) : ℝ :=
  if h : e.val < 128 then kv X K t ⟨e.val, h⟩ * lsR else 0

/-- What the scratch buffers hold once prepared. -/
structure Ready (X : Ins Ideal) (K : Fin 640 → Fin 128 → ℝ) (σ : St Ideal) : Prop where
  kp : ∀ t e, σ.kp (ix2 t e) = (kpv X K t e : EReal)
  vt : ∀ d t, σ.vt (ix2 d t) = vv X t d
  sc : ∀ (i : Fin 70) (e : Fin 4) (l : Fin 128) (p : Fin 280), p.val = 4 * i.val + e.val →
    σ.sc (ix2 p l) = word (X.qs (ix4 0 (tileH i (seg l)) e (tPos i l)))

theorem Ready.of_keep {σ σ' : St Ideal} (h : Ready X K σ) (hk : Keep σ σ') : Ready X K σ' :=
  ⟨fun t e => by rw [hk.2.1]; exact h.kp t e, fun d t => by rw [hk.2.2.1]; exact h.vt d t, fun i e l p hp => by rw [hk.2.2.2]; exact h.sc i e l p hp⟩

/-! ### Keys -/

/-- The keys of the first `k` groups of positions are prepared. -/
def KInv (X : Ins Ideal) (K : Fin 640 → Fin 128 → ℝ) (k : ℕ) (σ : St Ideal) : Prop :=
  ∀ (t : Fin 640) (e : Fin 256), t.val < 128 * k → σ.kp (ix2 t e) = (kpv X K t e : EReal)

theorem kVal_val (hX : Good X Q K) {lsc : Ideal .f32} (hl : lsc = (lsR : EReal)) {w : IVec Q4x640 32} (hw : ∀ e t, w (ix2 e t) = word (X.ks (ix4 0 0 e t)))
    (t : Fin 5) (y : Vec Ideal (L4 128 128) .fp8e4m3) (r d : Fin 128) (p : Fin 640) (hp : p.val = 128 * t.val + r.val)
    (hy : y (ix4 0 0 r d) = X.k (ix4 0 0 p d)) : kVal lsc w t y (ix2 r d) = ((kv X K p d * lsR : ℝ) : EReal) := by
  have h1 : (cat8 fun e : Fin 4 => rows16 (F := Ideal) (extractStridedSlice Q1x128 ![e.val, 128 * t.val] w
      ⟨rfl, Fin.forall_fin_two.mpr ⟨by have := e.isLt; show e.val + 1 ≤ 4; omega, by have := t.isLt; show 128 * t.val + 128 ≤ 640; omega⟩⟩)) (ix2 d r)
      = ((pw (X.ks (ix4 0 0 (qr d) p) : BitVec 8).toNat : ℝ) : EReal) := by
    rw [cat8_apply]
    have hb := hX.ks (qr d) p
    rw [rows16_apply (b := X.ks (ix4 0 0 (qr d) p)) _ _ _ ?_, ofBits_half hb.1 hb.2]
    refine (slice_apply _ _ w _ 0 r (by show d.val / 32 + 0 < 4; omega) (by omega)).trans ?_
    rw [← hw]
    congr 2
    · exact Fin.ext (by show 128 * t.val + r.val = p.val; omega)
  have h2 := cast4_apply y (by decide) r d
  refine (congrArg₂ (fun a b : EReal => a * b) (congrArg₂ (fun a b : EReal => a * b) (h2.trans (hy.trans (hX.k p d))) ((tr_apply _ r d).trans h1)) hl).trans ?_
  beta_reduce
  rw [← EReal.coe_mul, ← EReal.coe_mul]
  rfl

theorem kStep_tr (hX : Good X Q K) {lsc : Ideal .f32} (hl : lsc = (lsR : EReal)) {w : IVec Q4x640 32} (hw : ∀ e t, w (ix2 e t) = word (X.ks (ix4 0 0 e t)))
    (t : Fin 5) {σ : St Ideal} (hI : KInv X K t.val σ) : Tr defs 𝒱 c R X (kStep R lsc w t) σ fun _ σ' => KInv X K (t.val + 1) σ' := by
  have ht := t.isLt
  unfold kStep
  refine Tr_bind (Tr_ld (Q := fun y σ' => (y = fun i => X.k ((kLoad t).toLoadRect.idx i)) ∧ σ' = σ) rd_k ⟨rfl, rfl⟩) fun y σ' ⟨hy, hσ⟩ => ?_
  subst hσ
  have hkv : ∀ (r d : Fin 128) (p : Fin 640), p.val = 128 * t.val + r.val → kVal lsc w t y (ix2 r d) = ((kv X K p d * lsR : ℝ) : EReal) := fun r d p hp =>
    kVal_val hX hl hw t y r d p hp (by rw [hy]; exact congrArg X.k (idx4 0 0 r d 0 0 p d (by simp) (by simp) hp (by simp)))
  dsimp only
  refine Tr_bind (Tr_put (Q := fun _ σ'' => Upd (kRect t 0) (shapeCast Q128x128 (truncf (F := Ideal) .bf16 (kVal lsc w t y) (by decide)) (by decide)) σ'.kp σ''.kp)
    (fun X' => { σ' with kp := X' }) wr_kp fun X' hU => hU) fun _ σ₁ hU => ?_
  refine Tr_put (fun X' => { σ₁ with kp := X' }) wr_kp fun X' hU' => fun p e hp => ?_
  show X' (ix2 p e) = _
  rw [shapeCast_self] at hU hU'
  by_cases hlt : p.val < 128 * t.val
  · rw [upd2_out hU' p e (by omega), upd2_out hU p e (by omega)]
    exact hI p e hlt
  · have hpr : p.val = 128 * t.val + (⟨p.val - 128 * t.val, by omega⟩ : Fin 128).val := by show p.val = 128 * t.val + (p.val - 128 * t.val); omega
    unfold kpv
    split_ifs with he
    · rw [upd2_out hU' p e (by right; right; left; show e.val < 128 * 1; omega)]
      rw [upd2_in hU ⟨p.val - 128 * t.val, by omega⟩ ⟨e.val, he⟩ p e hpr (by simp)]
      exact hkv _ _ p hpr
    · rw [upd2_in hU' ⟨p.val - 128 * t.val, by omega⟩ ⟨e.val - 128, by omega⟩ p e hpr (by show e.val = 128 * 1 + (e.val - 128); omega)]
      have := hkv ⟨p.val - 128 * t.val, by omega⟩ ⟨e.val - 128, by omega⟩ p hpr
      show (kVal lsc w t y _ - kVal lsc w t y _ : EReal) = _
      rw [this, ← EReal.coe_sub, sub_self]

/-! ### Values -/

/-- The values of the first `k` groups of positions are prepared, and the keys of all. -/
def VInv (X : Ins Ideal) (K : Fin 640 → Fin 128 → ℝ) (k : ℕ) (σ : St Ideal) : Prop :=
  KInv X K 5 σ ∧ ∀ (d : Fin 128) (t : Fin 640), t.val < 128 * k → σ.vt (ix2 d t) = vv X t d

theorem vStep_tr {vs : FVec Ideal Q20x128 .f32} (hvs : ∀ b d, vs (ix2 b d) = ((pw (X.vs (ix4 0 0 b d) : BitVec 8).toNat : ℝ) : EReal))
    (t : Fin 5) {σ : St Ideal} (hI : VInv X K t.val σ) : Tr defs 𝒱 c R X (vStep R vs t) σ fun _ σ' => VInv X K (t.val + 1) σ' := by
  have ht := t.isLt
  unfold vStep
  refine Tr_bind (Tr_collect (P := fun b x => ∀ (r : Fin 32) (d : Fin 128) (p : Fin 640), p.val = 128 * t.val + 32 * b.val + r.val → x (ix2 r d) = vv X p d)
    (fun σ' => σ' = σ) rfl fun b σ' hσ => ?_) fun x σ' ⟨hx, hσ⟩ => ?_
  · refine Tr_bind (Tr_ld (Q := fun y σ'' => (y = fun i => X.v ((vLoad (vIx t b)).toLoadRect.idx i)) ∧ σ'' = σ') rd_v ⟨rfl, rfl⟩) fun y σ'' ⟨hy, hσ'⟩ =>
      Tr_pure ⟨fun r d p hp => ?_, hσ'.trans hσ⟩
    have h1 := cast4_apply y (by decide) r d
    have hb : b.val < 4 := b.isLt
    have h2 : (vLoad (vIx t b)).toLoadRect.idx (ix4 0 0 r d) = ix4 0 0 p d :=
      idx4 0 0 r d 0 0 p d (by simp) (by simp) (by show p.val = 32 * (4 * t.val + b.val) + r.val; omega) (by simp)
    have h3 : y (ix4 0 0 r d) = X.v (ix4 0 0 p d) := by rw [hy]; exact congrArg X.v h2
    refine congrArg₂ (fun a b : EReal => a * b) (h1.trans h3) ((broadcastTo_1b_ab_apply _ _ r d).trans
      ((slice_apply (vIx t b).val 0 vs _ 0 d (by show 4 * t.val + b.val + 0 < 20; omega) (by omega)).trans ((hvs _ _).trans ?_)))
    refine congrArg₂ (fun b d => ((pw (X.vs (ix4 0 0 b d) : BitVec 8).toNat : ℝ) : EReal)) (Fin.ext ?_) (Fin.ext ?_)
    · show 4 * t.val + b.val + 0 = p.val / 32; omega
    · show 0 + d.val = d.val; omega
  · subst hσ
    refine Tr_put (fun X' => { σ' with vt := X' }) wr_vt fun X' hU => ⟨hI.1, fun d p hp => ?_⟩
    show X' (ix2 d p) = _
    rw [shapeCast_self] at hU
    by_cases hlt : p.val < 128 * t.val
    · rw [upd2_out hU d p (by omega)]
      exact hI.2 d p hlt
    · rw [upd2_in hU d ⟨p.val - 128 * t.val, by omega⟩ d p (by simp) (by show p.val = 128 * t.val + (p.val - 128 * t.val); omega), tr_apply]
      refine (cat4_apply x ⟨p.val - 128 * t.val, by omega⟩ d).trans (hx _ _ _ p ?_)
      show p.val = 128 * t.val + 32 * ((p.val - 128 * t.val) / 32) + (p.val - 128 * t.val) % 32
      omega

/-! ### Query scale words -/

theorem lane_apply (u : Fin 8) (l : Fin 128) : lane (ix2 u l) = BitVec.ofNat 32 l.val := by
  revert u l; decide +kernel

theorem sge_small (l : Fin 128) (s : Fin 4) : IntOp.cmpi .sge (BitVec.ofNat 32 l.val) (BitVec.ofNat 32 (32 * s.val)) = BitVec.ofBool (decide (s.val ≤ l.val / 32)) := by
  revert l s; decide +kernel

theorem scSel_apply (s : Fin 4) (x acc : IVec Q4x128 32) (e : Fin 4) (l : Fin 128) :
    scSel s x acc (ix2 e l) = if s.val ≤ l.val / 32 then x (ix2 e l) else acc (ix2 e l) := by
  show Scalar.select (IntOp.cmpi .sge (extractStridedSlice Q4x128 ![0, 0] lane _ (ix2 e l)) (BitVec.ofNat 32 (32 * s.val))) (x (ix2 e l)) (acc (ix2 e l)) = _
  rw [slice_apply 0 0 lane _ e l (by omega) (by omega), lane_apply]
  have := sge_small l s
  rw [show ((⟨0 + l.val, by omega⟩ : Fin 128) : ℕ) = l.val from Nat.zero_add _, this]
  split_ifs with h
  · rw [decide_eq_true h]; rfl
  · rw [decide_eq_false h]; rfl

theorem scX_apply (qsw : Fin 14 → IVec Q4x640 32) (i : Fin 70) (e : Fin 4) (l : Fin 128) :
    scX qsw i (seg l) (ix2 e l) = qsw (tileH i (seg l)) (ix2 e (tPos i l)) := by
  have hc := (tileC i (seg l)).isLt
  have hl := l.isLt
  unfold scX
  dsimp only
  have hp : (tPos i l).val = 32 * (tileC i (seg l)).val + l.val % 32 := rfl
  have hs : (seg l).val = l.val / 32 := rfl
  split_ifs with h0
  · refine (slice_apply _ _ _ _ e l (by omega) (by omega)).trans ?_
    refine congrArg₂ (fun a b => qsw (tileH i (seg l)) (ix2 a b)) (Fin.ext ?_) (Fin.ext ?_)
    · show 0 + e.val = e.val; omega
    · show 128 * ((tileC i (seg l)).val / 4) + l.val = (tPos i l).val
      omega
  · refine (Idealize.ShloMosaic.dynamicRotate_apply 1 _ _ _ (ix2 e l) (ix2 e ⟨32 * ((tileC i (seg l)).val % 4) + l.val % 32, by omega⟩) ?_).trans ?_
    · intro b
      fin_cases b
      · rfl
      · show 32 * ((tileC i (seg l)).val % 4) + l.val % 32 = (l.val + 128 - (BitVec.ofNat 32 ((32 * (seg l).val + 128 - 32 * ((tileC i (seg l)).val % 4)) % 128)).toNat % 128) % 128
        rw [BitVec.toNat_ofNat]
        omega
    · refine (slice_apply _ _ _ _ e _ (by omega) (by show 128 * ((tileC i (seg l)).val / 4) + (32 * ((tileC i (seg l)).val % 4) + l.val % 32) < 640; omega)).trans ?_
      refine congrArg₂ (fun a b => qsw (tileH i (seg l)) (ix2 a b)) (Fin.ext ?_) (Fin.ext ?_)
      · show 0 + e.val = e.val; omega
      · show 128 * ((tileC i (seg l)).val / 4) + (32 * ((tileC i (seg l)).val % 4) + l.val % 32) = (tPos i l).val
        omega

theorem scWord_apply (qsw : Fin 14 → IVec Q4x640 32) (i : Fin 70) (e : Fin 4) (l : Fin 128) :
    scWord qsw i (ix2 e l) = qsw (tileH i (seg l)) (ix2 e (tPos i l)) := by
  rw [← scX_apply qsw i e l]
  unfold scWord
  rw [scSel_apply, scSel_apply, scSel_apply]
  have hs : (seg l).val = l.val / 32 := rfl
  rw [← hs]
  generalize seg l = s
  fin_cases s <;> simp

/-- The scale words of the first `k` tiles are prepared, the keys and the values of all. -/
def SInv (X : Ins Ideal) (K : Fin 640 → Fin 128 → ℝ) (k : ℕ) (σ : St Ideal) : Prop :=
  VInv X K 5 σ ∧ ∀ (i : Fin 70) (e : Fin 4) (l : Fin 128) (p : Fin 280), i.val < k → p.val = 4 * i.val + e.val →
    σ.sc (ix2 p l) = word (X.qs (ix4 0 (tileH i (seg l)) e (tPos i l)))

theorem scStep_tr {qsw : Fin 14 → IVec Q4x640 32} (hq : ∀ h e t, qsw h (ix2 e t) = word (X.qs (ix4 0 h e t))) (i : Fin 70) {σ : St Ideal} (hI : SInv X K i.val σ) :
    Tr defs 𝒱 c R X (scStep R qsw i) σ fun _ σ' => SInv X K (i.val + 1) σ' := by
  refine Tr_put (fun X' => { σ with sc := X' }) wr_sc fun X' hU => ⟨hI.1, fun j e l p hj hp => ?_⟩
  show X' (ix2 p l) = _
  rw [shapeCast_self] at hU
  rcases Nat.lt_succ_iff_lt_or_eq.mp hj with hj | hj
  · rw [upd2_out hU p l (by omega)]
    exact hI.2 j e l p hj hp
  · obtain rfl : j = i := Fin.ext hj
    rw [upd2_in hU e l p l hp (by simp), scWord_apply, hq]

theorem setup_tr (hX : Good X Q K) {lsc : Ideal .f32} (hl : lsc = (lsR : EReal)) (σ : St Ideal) :
    Tr defs 𝒱 c R X (setup R lsc) σ fun _ σ' => Ready X K σ' := by
  unfold setup
  refine Tr_bind (Tr_ld (Q := fun y σ' => (y = fun i => X.ks ((Rect.unit (s := Q1x1x4x640) ![0, 0, 0, 0] ![1, 1, 4, 640] (by decide)).toLoadRect.idx i)) ∧ σ' = σ) rd_ks ⟨rfl, rfl⟩)
    fun y σ' ⟨hy, _⟩ => ?_
  have hw : ∀ (e : Fin 4) (t : Fin 640), pow2w (shapeCast Q4x640 y (by decide)) (ix2 e t) = word (X.ks (ix4 0 0 e t)) := fun e t => by
    rw [pow2w_apply, cast4_apply, hy]
    exact congrArg (fun z => word (X.ks z)) (idx4 0 0 e t 0 0 e t (by simp) (by simp) (by simp) (by simp))
  refine Tr_bind (Tr_forN (KInv X K) (fun t e h => absurd h (by omega)) fun t σ'' hI => kStep_tr hX hl hw t hI) fun _ σ₁ hK => ?_
  refine Tr_bind (Tr_ld (Q := fun y σ' => (y = fun i => X.vs ((Rect.unit (s := Q1x1x20x128) ![0, 0, 0, 0] ![1, 1, 20, 128] (by decide)).toLoadRect.idx i)) ∧ σ' = σ₁) rd_vs ⟨rfl, rfl⟩)
    fun y₂ σ₂ ⟨hy₂, hσ⟩ => ?_
  subst hσ
  have hvs : ∀ (b : Fin 20) (d : Fin 128), (bitcastToFloat .f32 (shli (extui 32 (shapeCast Q20x128 y₂ (by decide) : IVec Q20x128 8) (by decide)) (broadcast Q20x128 23#32)) : FVec Ideal Q20x128 .f32) (ix2 b d)
      = ((pw (X.vs (ix4 0 0 b d) : BitVec 8).toNat : ℝ) : EReal) := fun b d => by
    have h1 : shapeCast Q20x128 y₂ (by decide) (ix2 b d) = X.vs (ix4 0 0 b d) := by
      rw [cast4_apply, hy₂]
      exact congrArg X.vs (idx4 0 0 b d 0 0 b d (by simp) (by simp) (by simp) (by simp))
    show Ideal.ofBits .f32 (IntOp.shli .vector (BitVec.setWidth 32 (shapeCast Q20x128 y₂ _ (ix2 b d))) 23#32) = _
    rw [h1]
    exact ofBits_shl23 (hX.vs b d).1 (hX.vs b d).2
  refine Tr_bind (Tr_forN (VInv X K) ⟨hK, fun d t h => absurd h (by omega)⟩ fun t σ'' hI => vStep_tr hvs t hI) fun _ σ₃ hV => ?_
  refine Tr_bind (Tr_collect (P := fun h w => ∀ e t, w (ix2 e t) = word (X.qs (ix4 0 h e t))) (fun σ' => σ' = σ₃) rfl fun h σ'' hσ => ?_) fun qsw σ₄ ⟨hq, hσ⟩ => ?_
  · refine Tr_bind (Tr_ld (Q := fun y σ' => (y = fun i => X.qs ((qsLoad h).toLoadRect.idx i)) ∧ σ' = σ'') rd_qs ⟨rfl, rfl⟩) fun y₃ σ' ⟨hy₃, h1⟩ => Tr_pure ⟨fun e t => ?_, h1.trans hσ⟩
    rw [pow2w_apply, cast4_apply, hy₃]
    exact congrArg (fun z => word (X.qs z)) (idx4 0 0 e t 0 h e t (by simp) (by simp) (by simp) (by simp))
  · subst hσ
    exact Tr_mono (Tr_forN (SInv X K) ⟨hV, fun i e l p h => absurd h (by omega)⟩ fun i σ'' hI => scStep_tr hq i hI) fun _ σ₅ hS =>
      ⟨fun t e => hS.1.1 t e (by omega), fun d t => hS.1.2 d t (by omega), fun i e l p hp => hS.2 i e l p i.isLt hp⟩

end Proof01k

end
-- ==== Proof.RefScores.lean ====
/-
The reference's value: every entry of its result is the attention over the scaled queries, keys and values of its batch entry and key head.
-/
module

public import proofs.«01_k».proof.Proof.Gen.ReferenceIdeal.Frame
public import proofs.«01_k».proof.Proof.RefMath
public import proofs.«01_k».proof.Proof.Setup
public import Idealize.ShloMosaic.Lib.Pointwise
public import Idealize.ShloMosaic.Lib.Pipeline.Value

@[expose] public section

set_option maxRecDepth 16384

noncomputable section

namespace Cert.ReferenceIdeal.Gen

open Idealize.ShloMosaic Idealize.ShloMosaic.TcCoe
open Proof01k (pw blkExp)

/-! ### The payloads at an index -/

theorem pay2_apply (v0 : Vec Ideal S3x640x28x128 .fp8e4m3) (v4 : Vec Ideal S3x640x28x4 .i8) (b : Fin 3) (t : Fin 640) (g : Fin 2) (r : Fin 14) (d : Fin 128) :
    k0_pay2 v0 v4 (ix5 b t g r d) = v0 (ix4 b t ⟨g.val * 14 + r.val, by omega⟩ d)
      * ((pw (v4 (ix4 b t ⟨g.val * 14 + r.val, by omega⟩ ⟨d.val / 32, by omega⟩) : BitVec 8).toNat : ℝ) : EReal) := by
  rw [← Proof01k.decode_byte]
  pointwise [k0_pay2]
  rfl

theorem pay3_apply (v0 : Vec Ideal S3x640x2x128 .fp8e4m3) (v4 : Vec Ideal S3x640x2x4 .i8) (b : Fin 3) (t : Fin 640) (g : Fin 2) (d : Fin 128) :
    k0_pay3 v0 v4 (ix4 b t g d) = v0 (ix4 b t g d) * ((pw (v4 (ix4 b t g ⟨d.val / 32, by omega⟩) : BitVec 8).toNat : ℝ) : EReal) := by
  rw [← Proof01k.decode_byte]
  pointwise [k0_pay3]
  rfl

theorem pay5_apply (v0 : Vec Ideal S3x640x2x128 .fp8e4m3) (v4 : Vec Ideal S3x20x2x128 .i8) (n : Fin 6) (t : Fin 640) (d : Fin 128) :
    k0_pay5 (k0_pay4 v0) v4 (ix3 n t d) = v0 (ix4 ⟨n.val / 2, by omega⟩ t ⟨n.val % 2, by omega⟩ d)
      * ((pw (v4 (ix4 ⟨n.val / 2, by omega⟩ ⟨t.val / 32, by omega⟩ ⟨n.val % 2, by omega⟩ d) : BitVec 8).toNat : ℝ) : EReal) := by
  rw [← Proof01k.decode_byte]
  pointwise [k0_pay5, k0_pay4]
  rfl

/-- The scaled, masked score of the reference. -/
def rawScore (v14 : FVec Ideal S3x640x2x14x128 .bf16) (v29 : FVec Ideal S3x640x2x128 .bf16) (n : Fin 6) (r : Fin 14) (t k : Fin 640) : EReal :=
  Scalar.select (IntOp.cmpi .sle (BitVec.ofNat 32 k.val) (BitVec.ofNat 32 t.val))
    ((∑ x : Fin 128, v14 (ix5 ⟨n.val / 2, by omega⟩ t ⟨n.val % 2, by omega⟩ r x) * v29 (ix4 ⟨n.val / 2, by omega⟩ k ⟨n.val % 2, by omega⟩ x))
      * (Named.named κ "score_scale" 0x3DB504F3#32 : Ideal .f32)) (Ideal.ofBits .f32 0xFF800000#32 : EReal)

theorem pay6_apply (v14 : FVec Ideal S3x640x2x14x128 .bf16) (v29 : FVec Ideal S3x640x2x128 .bf16) (n : Fin 6) (r : Fin 14) (t : Fin 640) (a : Fin 20) (e : Fin 32) :
    k0_pay6 v14 v29 (ix5 n r t a e) = Ideal.div
      (Ideal.exp (rawScore v14 v29 n r t ⟨a.val * 32 + e.val, by omega⟩ - Finset.univ.fold max (Ideal.ofBits .f32 0xFF800000#32 : EReal) fun k => rawScore v14 v29 n r t k))
      (∑ k, Ideal.exp (rawScore v14 v29 n r t k - Finset.univ.fold max (Ideal.ofBits .f32 0xFF800000#32 : EReal) fun k => rawScore v14 v29 n r t k)) := by
  unfold rawScore
  pointwise [k0_pay6]

theorem max_apply (y : FVec Ideal S6x14x640x20x32 .f32) (h0 h1 h2) (n : Fin 6) (r : Fin 14) (t : Fin 640) (a : Fin 20) :
    (multiReduction .maximumf [4] S6x14x640x20 (absf y) 0xFF800000#32 h0 h1 h2 : FVec Ideal S6x14x640x20 .f32) (ix4 n r t a)
      = Finset.univ.fold max (Ideal.ofBits .f32 0xFF800000#32 : EReal) fun x => FloatOps.absf (y (ix5 n r t a x)) := by
  pointwise

theorem pay7_apply (v14 : FVec Ideal S3x640x2x14x128 .bf16) (v29 : FVec Ideal S3x640x2x128 .bf16) (n : Fin 6) (r : Fin 14) (t : Fin 640) (a : Fin 20) :
    k0_pay7 v14 v29 (ix4 n r t a) = Finset.univ.fold max (Ideal.ofBits .f32 0xFF800000#32 : EReal) fun x => FloatOps.absf (k0_pay6 v14 v29 (ix5 n r t a x)) := by
  unfold k0_pay7
  generalize k0_pay6 v14 v29 = y
  exact max_apply y _ _ _ n r t a

end Cert.ReferenceIdeal.Gen

end
-- ==== Proof.RefPow.lean ====
/-
The reference's value: every entry of its result is the attention over the scaled queries, keys and values of its batch entry and key head.
-/
module

public import proofs.«01_k».proof.Proof.Gen.ReferenceIdeal.Frame
public import proofs.«01_k».proof.Proof.RefMath
public import proofs.«01_k».proof.Proof.Setup
public import Idealize.ShloMosaic.Lib.Pointwise
public import Idealize.ShloMosaic.Lib.Pipeline.Value

@[expose] public section

set_option maxRecDepth 16384

noncomputable section

namespace Cert.ReferenceIdeal.Gen

open Idealize.ShloMosaic Idealize.ShloMosaic.TcCoe
open Proof01k (pw blkExp)

theorem pow_apply (y : FVec Ideal S6x14x640x20 .f32) (i : S6x14x640x20.Idx) :
    addf (floor (divf (log (mulf y (broadcast S6x14x640x20 (Scalar.ofBits .f32 0x3B124925#32 : Ideal .f32))))
      (broadcast S6x14x640x20 (Named.named κ "ln2" 0x3F317218#32 : Ideal .f32)))) (broadcast S6x14x640x20 (Scalar.ofBits .f32 0x3F800000#32 : Ideal .f32)) i
      = Ideal.liftRound Int.floor (Ideal.div (Ideal.log (y i * Ideal.ofBits .f32 0x3B124925#32)) (Named.named κ "ln2" 0x3F317218#32 : Ideal .f32)) + 1 := by
  rw [← Ideal.ofBits_one_f32]
  rfl

theorem zero_apply (y : FVec Ideal S6x14x640x20 .f32) (i : S6x14x640x20.Idx) :
    cmpf .oeq y (broadcast S6x14x640x20 (Scalar.ofBits .f32 0x00000000#32 : Ideal .f32)) i = BitVec.ofBool (decide (y i = 0)) := by
  have h : cmpf .oeq y (broadcast S6x14x640x20 (Scalar.ofBits .f32 0x00000000#32 : Ideal .f32)) i = BitVec.ofBool (decide (y i = Ideal.ofBits .f32 0x00000000#32)) := rfl
  rw [h, Ideal.ofBits_zero_f32]

theorem pay8_apply (v14 : FVec Ideal S3x640x2x14x128 .bf16) (v29 : FVec Ideal S3x640x2x128 .bf16) (n : Fin 6) (r : Fin 14) (t : Fin 640) (a : Fin 20) :
    k0_pay8 v14 v29 (ix4 n r t a) = Ideal.liftRound Int.floor (Ideal.div (Ideal.log (k0_pay7 v14 v29 (ix4 n r t a) * Ideal.ofBits .f32 0x3B124925#32))
      (Named.named κ "ln2" 0x3F317218#32 : Ideal .f32)) + 1 := by
  unfold k0_pay8
  generalize k0_pay7 v14 v29 = y
  exact pow_apply y _

theorem pay9_apply (v14 : FVec Ideal S3x640x2x14x128 .bf16) (v29 : FVec Ideal S3x640x2x128 .bf16) (n : Fin 6) (r : Fin 14) (t : Fin 640) (a : Fin 20) :
    k0_pay9 v14 v29 (ix4 n r t a) = BitVec.ofBool (decide (k0_pay7 v14 v29 (ix4 n r t a) = 0)) := by
  unfold k0_pay9
  generalize k0_pay7 v14 v29 = y
  exact zero_apply y _

theorem ln2_named : (Named.named κ "ln2" 0x3F317218#32 : Ideal .f32) = ((Real.log 2 : ℝ) : EReal) := rfl

theorem scale_named : (Named.named κ "score_scale" 0x3DB504F3#32 : Ideal .f32) = (((Real.sqrt 128)⁻¹ : ℝ) : EReal) := rfl

/-- The reference's exponent of a block. -/
theorem exp_apply (v14 : FVec Ideal S3x640x2x14x128 .bf16) (v29 : FVec Ideal S3x640x2x128 .bf16) (n : Fin 6) (r : Fin 14) (t : Fin 640) (a : Fin 20) :
    Scalar.select (k0_pay9 v14 v29 (ix4 n r t a)) (0 : EReal) (k0_pay8 v14 v29 (ix4 n r t a)) = blkExp (k0_pay7 v14 v29 (ix4 n r t a)) := by
  have h8 := pay8_apply v14 v29 n r t a
  have h9 := pay9_apply v14 v29 n r t a
  generalize k0_pay7 v14 v29 (ix4 n r t a) = y at h8 h9 ⊢
  rw [h8, h9, ln2_named]
  unfold blkExp
  congr 2

end Cert.ReferenceIdeal.Gen

end
-- ==== Proof.RefSum.lean ====
/-
The reference's value: every entry of its result is the attention over the scaled queries, keys and values of its batch entry and key head.
-/
module

public import proofs.«01_k».proof.Proof.Gen.ReferenceIdeal.Frame
public import proofs.«01_k».proof.Proof.RefMath
public import proofs.«01_k».proof.Proof.Setup
public import Idealize.ShloMosaic.Lib.Pointwise
public import Idealize.ShloMosaic.Lib.Pipeline.Value

@[expose] public section

set_option maxRecDepth 16384

noncomputable section

namespace Cert.ReferenceIdeal.Gen

open Idealize.ShloMosaic Idealize.ShloMosaic.TcCoe
open Proof01k (pw blkExp)

theorem pay1_apply (v50 : FVec Ideal S6x640x128 .bf16) (v69 : FVec Ideal S6x14x640x20x32 .f32) (v79 : FVec Ideal S6x14x640x20 .f32) (v81 : IVec S6x14x640x20 1) (z : Ideal .f32)
    (b : Fin 3) (t : Fin 640) (c : Fin 3584) (N : Fin 6) (hN : N = ⟨b.val * 2 + c.val / 1792, by omega⟩)
    (R : Fin 14) (hR : R = ⟨(c.val / 128 % 14 * 640 + t.val) / 640, by omega⟩) (D : Fin 128) (hD : D = ⟨c.val % 128, by omega⟩) :
    k0_pay1 v50 v69 v79 v81 z (ix3 b t c) = ∑ x : Fin 640,
      min (Ideal.ofBits .f32 0x43E00000#32 : EReal) (max (Ideal.ofBits .f32 0xC3E00000#32 : EReal)
          (v69 (ix5 N R t ⟨x.val / 32, by omega⟩ ⟨x.val % 32, by omega⟩)
            * Ideal.exp2 (0 - Scalar.select (v81 (ix4 N R t ⟨x.val / 32, by omega⟩)) z (v79 (ix4 N R t ⟨x.val / 32, by omega⟩)))))
        * Ideal.exp2 (Scalar.select (v81 (ix4 N R t ⟨x.val / 32, by omega⟩)) z (v79 (ix4 N R t ⟨x.val / 32, by omega⟩)))
        * v50 (ix3 N x D) := by
  subst hN hR hD
  pointwise [k0_pay1]
  rfl

end Cert.ReferenceIdeal.Gen

end
-- ==== Proof.Value.lean ====
/-
The whole body as a value: every entry of the output block is the attention over the scaled queries, keys and values.
-/
module

public import proofs.«01_k».proof.Proof.Setup

@[expose] public section

set_option maxRecDepth 8192

noncomputable section

namespace Proof01k

open Idealize.ShloMosaic Idealize.ShloMosaic.TcCoe Idealize.SL.Sem Idealize.ShloMosaic.ValueIdx

variable {nD : ℕ} {τ : Topo} {sig : RefSig} {Λ : Labels}
variable {defs : Defs nD τ sig (Elt Ideal) Λ} {𝒱 : Variants} {c : Dev nD} {R : Refs sig} {X : Ins Ideal}
variable {Q : Fin 14 → Fin 640 → Fin 128 → ℝ} {K : Fin 640 → Fin 128 → ℝ}

/-- The scaled score of head `h`'s query at `t` with the key at `s`. -/
def score (X : Ins Ideal) (Q : Fin 14 → Fin 640 → Fin 128 → ℝ) (K : Fin 640 → Fin 128 → ℝ) (h : Fin 14) (t : Fin 640) (s : ℕ) : ℝ :=
  if hs : s < 640 then (∑ d, kv X K ⟨s, hs⟩ d * qv X Q h t d) * (Real.sqrt 128)⁻¹ else 0

/-- The attention of head `h` at position `t`, coordinate `d`. -/
def outV (X : Ins Ideal) (Q : Fin 14 → Fin 640 → Fin 128 → ℝ) (K : Fin 640 → Fin 128 → ℝ) (h : Fin 14) (t : Fin 640) (d : Fin 128) : EReal :=
  ∑ s : Fin 640, vv X s d * ((att (score X Q K h t) t.val s.val : ℝ) : EReal)

/-! ### Queries and scores -/

theorem qTile_tr (hX : Good X Q K) {σ : St Ideal} (hR : Ready X K σ) (i : Fin 70) :
    Tr defs 𝒱 c R X (qTile R i) σ fun q σ' => (∀ d l : Fin 128, q (ix2 d l) = ((qv X Q (tileH i (seg l)) (tPos i l) d : ℝ) : EReal)) ∧ σ' = σ := by
  unfold qTile
  refine Tr_bind (Tr_collect (P := fun s x => ∀ (r : Fin 32) (d : Fin 128) (t : Fin 640), t.val = 32 * (tileC i s).val + r.val →
    x (ix2 r d) = ((Q (tileH i s) t d : ℝ) : EReal)) (fun σ' => σ' = σ) rfl fun s σ' hσ => ?_) fun q σ₁ ⟨hq, hσ⟩ => ?_
  · refine Tr_bind (Tr_ld (Q := fun y σ'' => (y = fun i' => X.q ((qLoad (tileH i s) (tileC i s)).toLoadRect.idx i')) ∧ σ'' = σ') rd_q ⟨rfl, rfl⟩)
      fun y σ'' ⟨hy, h1⟩ => Tr_pure ⟨fun r d t ht => ?_, h1.trans hσ⟩
    refine (cast4_apply y _ r d).trans ?_
    rw [hy]
    exact (congrArg X.q (idx4 0 0 r d 0 (tileH i s) t d (by simp) (by simp) ht (by simp))).trans (hX.q _ _ _)
  · subst hσ
    refine Tr_bind (Tr_collect (P := fun e x => ∀ (r : Fin 16) (l : Fin 128),
      x (ix2 r l) = ((pw (X.qs (ix4 0 (tileH i (seg l)) e (tPos i l)) : BitVec 8).toNat : ℝ) : EReal)) (fun σ' => σ' = σ₁) rfl fun e σ' hσ => ?_)
        fun w σ₂ ⟨hw, hσ⟩ => Tr_pure ⟨fun d l => ?_, hσ⟩
    · refine Tr_bind (Tr_ld (Q := fun y σ'' => (y = fun i' => σ'.sc ((scRow i e).toLoadRect.idx i')) ∧ σ'' = σ') rd_sc ⟨rfl, rfl⟩)
        fun y σ'' ⟨hy, h1⟩ => Tr_pure ⟨fun r l => ?_, h1.trans hσ⟩
      have hb := hX.qs (tileH i (seg l)) e (tPos i l)
      refine (rows16_apply (b := X.qs (ix4 0 (tileH i (seg l)) e (tPos i l))) y r l ?_).trans (ofBits_half hb.1 hb.2)
      rw [hy, hσ]
      exact (congrArg σ₁.sc (idx2 0 l ⟨4 * i.val + e.val, by omega⟩ l (by simp) (by simp))).trans (hR.sc i e l _ rfl)
    · have h1 : tr (extf .bf16 (cat4 q : FVec Ideal Q128x128 .fp8e4m3) (by decide) : FVec Ideal Q128x128 .bf16) (ix2 d l) = ((Q (tileH i (seg l)) (tPos i l) d : ℝ) : EReal) :=
        (tr_apply _ d l).trans ((cat4_apply q l d).trans (hq (seg l) _ d (tPos i l) rfl))
      refine (congrArg₂ (fun a b : EReal => a * b) h1 ((cat8_apply w d l).trans (hw _ _ _))).trans ?_
      beta_reduce
      rw [← EReal.coe_mul]
      rfl

theorem catq_apply {α : Type} (q : Fin 2 → Q128x128.Idx → α) (d : Fin 128) (a : Fin 2) (l : Fin 128) :
    concatenate Q128x256 1 [⟨Q128x128, q 0⟩, ⟨Q128x128, q 1⟩] c2q (ix2 d (lane2 a l)) = q a (ix2 d l) := by
  have hl := l.isLt
  have ha := a.isLt
  exact concatenate_ofFn_apply (t := Q128x256) (s₁ := Q128x128) 1 (N := 2) q c2q rfl 128 rfl (ix2 d (lane2 a l)) a
    (by show (128 * a.val + l.val) / 128 = a.val; omega) (ix2 d l) (by show l.val = (128 * a.val + l.val) % 128; omega)
    (by intro b hb; fin_cases b; rfl; exact absurd rfl hb)

theorem catqt_apply {α : Type} (q : Q128x256.Idx → α) (k : Fin 256) (l : Fin 256) :
    concatenate Q256x256 0 [⟨Q128x256, q⟩, ⟨Q128x256, q⟩] c2qt (ix2 k l) = q (ix2 ⟨k.val % 128, by omega⟩ l) :=
  concatenate_ofFn_apply (t := Q256x256) (s₁ := Q128x256) 0 (N := 2) (fun _ => q) c2qt rfl 128 rfl (ix2 k l)
    ⟨k.val / 128, by omega⟩ rfl (ix2 ⟨k.val % 128, by omega⟩ l) rfl (by intro b hb; fin_cases b; exact absurd rfl hb; rfl)

theorem sVal_scores {n : ℕ} (hn : n ≤ 20) (kp : FVec Ideal (Qn n 256) .bf16) (q : Fin 2 → FVec Ideal Q128x128 .bf16) (i : Fin 2 → Fin 70)
    (hk : ∀ (r : Fin (32 * n)) (e : Fin 256), kp (ix2 r e) = ((kpv X K ⟨r.val, by omega⟩ e : ℝ) : EReal))
    (hq : ∀ a (d l : Fin 128), q a (ix2 d l) = ((qv X Q (tileH (i a) (seg l)) (tPos (i a) l) d : ℝ) : EReal)) (a : Fin 2) :
    Scores (sVal kp q) a fun l => score X Q K (tileH (i a) (seg l)) (tPos (i a) l) := by
  intro r l
  have hr := r.isLt
  unfold sVal
  dsimp only
  refine (Ideal.matmul_plain_apply none kp _ _ r (lane2 a l)).trans ?_
  have h0 : (constant (Qn n 256) .f32 0x00000000#32 : FVec Ideal (Qn n 256) .f32) (ix2 r (lane2 a l)) = 0 := Ideal.ofBits_zero_f32
  rw [h0, zero_add]
  have h1 : ∀ e : Fin 256, (kp (ix2 r e) * concatenate Q256x256 0 [⟨Q128x256, concatenate Q128x256 1 [⟨Q128x128, q 0⟩, ⟨Q128x128, q 1⟩] c2q⟩,
      ⟨Q128x256, concatenate Q128x256 1 [⟨Q128x128, q 0⟩, ⟨Q128x128, q 1⟩] c2q⟩] c2qt (ix2 e (lane2 a l)) : EReal)
      = ((kpv X K ⟨r.val, by omega⟩ e * qv X Q (tileH (i a) (seg l)) (tPos (i a) l) ⟨e.val % 128, by omega⟩ : ℝ) : EReal) := fun e => by
    rw [catqt_apply, catq_apply, hq, hk, ← EReal.coe_mul]
  refine (Finset.sum_congr rfl fun e _ => h1 e).trans ?_
  rw [← coe_sum]
  congr 1
  have hs : r.val < 640 := by omega
  unfold score
  rw [dif_pos hs, show (Finset.univ : Finset (Fin 256)) = (Finset.univ : Finset (Fin (128 + 128))) from rfl, Fin.sum_univ_add (a := 128) (b := 128)]
  have hz : ∑ e : Fin 128, kpv X K ⟨r.val, hs⟩ (Fin.natAdd 128 e) * qv X Q (tileH (i a) (seg l)) (tPos (i a) l) ⟨(Fin.natAdd 128 e).val % 128, by omega⟩ = 0 :=
    Finset.sum_eq_zero fun e _ => by
      unfold kpv
      rw [dif_neg (by show ¬ 128 + e.val < 128; omega), zero_mul]
  refine (congrArg₂ (fun a b : ℝ => a + b) rfl hz).trans ?_
  rw [add_zero, Finset.sum_mul, Finset.sum_mul]
  refine Finset.sum_congr rfl fun d _ => ?_
  have hd : (⟨(Fin.castAdd 128 d).val % 128, by omega⟩ : Fin 128) = d := Fin.ext (by show d.val % 128 = d.val; omega)
  rw [hd]
  unfold kpv
  rw [dif_pos (show (Fin.castAdd 128 d).val < 128 from d.isLt)]
  show kv X K ⟨r.val, hs⟩ d * lsR * qv X Q (tileH (i a) (seg l)) (tPos (i a) l) d = _
  unfold lsR
  ring

/-! ### The output -/

theorem pCat2_apply {n : ℕ} (p : Fin 2 → FVec Ideal (Qn n 128) .bf16) (r : Fin (32 * n)) (a : Fin 2) (l : Fin 128) :
    pCat2 p (ix2 r (lane2 a l)) = p a (ix2 r l) := by
  have hl := l.isLt
  have ha := a.isLt
  exact concatenate_ofFn_apply (t := Qn n 256) (s₁ := Qn n 128) 1 (N := 2) p _ rfl 128 rfl (ix2 r (lane2 a l)) a
    (by show (128 * a.val + l.val) / 128 = a.val; omega) (ix2 r l) (by show l.val = (128 * a.val + l.val) % 128; omega)
    (by intro b hb; fin_cases b; rfl; exact absurd rfl hb)

theorem oVal_val {n : ℕ} (hn : n ≤ 20) (vt : FVec Ideal ⟨2, ![128, 32 * n]⟩ .bf16) (p : Fin 2 → FVec Ideal (Qn n 128) .bf16) (a : Fin 2) (d l : Fin 128)
    (y : ℕ → ℝ) (t : ℕ) (ht : t < 32 * n) (hv : ∀ r : Fin (32 * n), vt (ix2 d r) = vv X ⟨r.val, by omega⟩ d)
    (hp : ∀ r : Fin (32 * n), p a (ix2 r l) = ((att y t r.val : ℝ) : EReal)) :
    oVal vt (pCat2 p) (ix2 d (lane2 a l)) = ∑ s : Fin 640, vv X s d * ((att y t s.val : ℝ) : EReal) := by
  unfold oVal
  refine (Ideal.matmul_plain_apply none vt _ _ d (lane2 a l)).trans ?_
  have h0 : (constant Q128x256 .f32 0x00000000#32 : FVec Ideal Q128x256 .f32) (ix2 d (lane2 a l)) = 0 := Ideal.ofBits_zero_f32
  rw [h0, zero_add]
  have h1 : ∀ r : Fin (32 * n), (vt (ix2 d r) * pCat2 p (ix2 r (lane2 a l)) : EReal) = vv X ⟨r.val, by omega⟩ d * ((att y t r.val : ℝ) : EReal) := fun r => by
    rw [pCat2_apply, hp, hv]
  refine (Finset.sum_congr rfl fun r _ => h1 r).trans ?_
  obtain ⟨k, hk⟩ : ∃ k, 640 = 32 * n + k := ⟨640 - 32 * n, by omega⟩
  refine Eq.symm ((Fintype.sum_equiv (finCongr hk) _ (fun s : Fin (32 * n + k) => vv X ⟨s.val, by omega⟩ d * ((att y t s.val : ℝ) : EReal)) fun s => rfl).trans ?_)
  rw [Fin.sum_univ_add]
  refine (congrArg₂ (fun a b : EReal => a + b) rfl (Finset.sum_eq_zero fun e _ => ?_)).trans (add_zero _)
  rw [att_zero _ (show t < (Fin.natAdd (32 * n) e).val by show t < 32 * n + e.val; omega), EReal.coe_zero, mul_zero]

theorem oTile_apply (ot : FVec Ideal Q128x256 .f32) (a : Fin 2) (l d : Fin 128) : oTile ot a (ix2 l d) = ot (ix2 d (lane2 a l)) := by
  have ha := a.isLt
  unfold oTile
  refine (tr_apply _ l d).trans ?_
  refine (slice_apply 0 (128 * a.val) ot (by fin_cases a <;> decide) d l (by omega) (by omega)).trans ?_
  exact congrArg ot (congrArg (fun e => ix2 e (lane2 a l)) (Fin.ext (Nat.zero_add _)))

/-- The block of head `h` and query block `C` is written. -/
def Done (X : Ins Ideal) (Q : Fin 14 → Fin 640 → Fin 128 → ℝ) (K : Fin 640 → Fin 128 → ℝ) (o : Q1x640x1792.Idx → EReal) (h : Fin 14) (C : Fin 20) : Prop :=
  ∀ (t : Fin 640) (d : Fin 128), t.val / 32 = C.val → o (ix3 0 t ⟨128 * h.val + d.val, by omega⟩) = outV X Q K h t d

theorem oStep_tr {σ : St Ideal} (hR : Ready X K σ) (o : FVec Ideal Q128x128 .bf16) (i : Fin 70) (s : Fin 4)
    (ho : ∀ l d, o (ix2 l d) = outV X Q K (tileH i (seg l)) (tPos i l) d) :
    Tr defs 𝒱 c R X (oStep R o i s) σ fun _ σ' => Ready X K σ' ∧ Done X Q K σ'.o (tileH i s) (tileC i s)
      ∧ ∀ h C, Done X Q K σ.o h C → Done X Q K σ'.o h C := by
  refine Tr_put (fun X' => { σ with o := X' }) wr_o fun X' hU => ⟨⟨hR.kp, hR.vt, hR.sc⟩, ?_⟩
  have hin : ∀ (t : Fin 640) (d : Fin 128), t.val / 32 = (tileC i s).val → X' (ix3 0 t ⟨128 * (tileH i s).val + d.val, by omega⟩) = outV X Q K (tileH i s) t d := fun t d ht => by
    have hs := s.isLt
    rw [upd3_in hU 0 ⟨t.val % 32, by omega⟩ d 0 t ⟨128 * (tileH i s).val + d.val, by omega⟩ (by simp) (by show t.val = 32 * (tileC i s).val + t.val % 32; omega) rfl]
    refine (shapeCast_ab_1ab_apply (oSeg o s) _ 0 _ d).trans ?_
    refine (slice_apply (32 * s.val) 0 o _ ⟨t.val % 32, by omega⟩ d (by show 32 * s.val + t.val % 32 < 128; omega) (by omega)).trans ?_
    have hsg : seg (⟨32 * s.val + t.val % 32, by omega⟩ : Fin 128) = s := Fin.ext (by show (32 * s.val + t.val % 32) / 32 = s.val; omega)
    refine (ho _ _).trans ?_
    have ht' : tPos i (⟨32 * s.val + t.val % 32, by omega⟩ : Fin 128) = t := Fin.ext (by
      show 32 * (tileC i (seg (⟨32 * s.val + t.val % 32, by omega⟩ : Fin 128))).val + (32 * s.val + t.val % 32) % 32 = t.val
      rw [hsg]; omega)
    refine (congrArg₂ (fun a b => outV X Q K (tileH i a) b _) hsg ht').trans ?_
    exact congrArg (outV X Q K (tileH i s) t) (Fin.ext (Nat.zero_add _))
  refine ⟨hin, fun h C hD t d ht => ?_⟩
  show X' (ix3 0 t ⟨128 * h.val + d.val, by omega⟩) = _
  by_cases h1 : C = tileC i s
  · by_cases h2 : h = tileH i s
    · subst h2
      exact hin t d (h1 ▸ ht)
    · have := Fin.val_ne_of_ne h2
      rw [upd3_out hU 0 t ⟨128 * h.val + d.val, by omega⟩ (by
        show _ ∨ _ ∨ _ ∨ _ ∨ 128 * h.val + d.val < 128 * (tileH i s).val ∨ 128 * (tileH i s).val + 128 ≤ 128 * h.val + d.val
        omega)]
      exact hD t d ht
  · have := Fin.val_ne_of_ne h1
    rw [upd3_out hU 0 t ⟨128 * h.val + d.val, by omega⟩ (by
      show _ ∨ _ ∨ t.val < 32 * (tileC i s).val ∨ 32 * (tileC i s).val + 32 ≤ t.val ∨ _
      omega)]
    exact hD t d ht

/-- The blocks of a tile's first `k` segments are written. -/
def TileDone (X : Ins Ideal) (Q : Fin 14 → Fin 640 → Fin 128 → ℝ) (K : Fin 640 → Fin 128 → ℝ) (i : Fin 70) (k : ℕ) (o : Q1x640x1792.Idx → EReal) : Prop :=
  ∀ s : Fin 4, s.val < k → Done X Q K o (tileH i s) (tileC i s)

theorem pairStep_tr (hX : Good X Q K) {σ : St Ideal} (hR : Ready X K σ) (i0 : Fin 35) :
    Tr defs 𝒱 c R X (pairStep R i0) σ fun _ σ' => Ready X K σ' ∧ (∀ a, TileDone X Q K (tileOf i0 a) 4 σ'.o)
      ∧ ∀ h C, Done X Q K σ.o h C → Done X Q K σ'.o h C := by
  have hn := nOf_le i0
  unfold pairStep
  refine Tr_bind (Tr_collect (P := fun a q => ∀ d l : Fin 128, q (ix2 d l) = ((qv X Q (tileH (tileOf i0 a) (seg l)) (tPos (tileOf i0 a) l) d : ℝ) : EReal))
    (fun σ' => σ' = σ) rfl fun a σ' hσ => by subst hσ; exact qTile_tr hX hR _) fun q σ₁ ⟨hq, hσ⟩ => ?_
  subst hσ
  refine Tr_bind (Tr_ld (Q := fun y σ' => (y = fun i' => σ₁.kp ((kpLoad (nOf i0) (nOf_le i0)).toLoadRect.idx i')) ∧ σ' = σ₁) rd_kp ⟨rfl, rfl⟩) fun kp σ₂ ⟨hkp, hσ⟩ => ?_
  subst hσ
  have hk : ∀ (r : Fin (32 * nOf i0)) (e : Fin 256), kp (ix2 r e) = ((kpv X K ⟨r.val, by omega⟩ e : ℝ) : EReal) := fun r e => by
    rw [hkp]
    exact (congrArg σ₂.kp (idx2 r e ⟨r.val, by omega⟩ e (by simp) (by simp))).trans (hR.kp _ _)
  have hs : ∀ a : Fin 2, Scores (sVal kp q) a fun l => score X Q K (tileH (tileOf i0 a) (seg l)) (tPos (tileOf i0 a) l) :=
    fun a => sVal_scores hn kp q (tileOf i0) hk hq a
  dsimp only
  generalize sVal kp q = S at hs ⊢
  refine Tr_bind (Tr_collect (P := fun a p => ∀ (r : Fin (32 * nOf i0)) (l : Fin 128),
    p (ix2 r l) = ((att (score X Q K (tileH (tileOf i0 a) (seg l)) (tPos (tileOf i0 a) l)) (tPos (tileOf i0 a) l).val r.val : ℝ) : EReal))
    (Keep σ₂) Keep.rfl' fun a σ' hσ => Tr_mono (pTile_tr (ntp_le i0 a) (hs a) hn σ') fun p σ'' ⟨h1, h2⟩ => ⟨h1, hσ.trans h2⟩) fun p σ₃ ⟨hp, hK⟩ => ?_
  have hR₃ := hR.of_keep hK
  refine Tr_bind (Tr_ld (Q := fun y σ' => (y = fun i' => σ₃.vt ((vtLoad (nOf i0) (nOf_le i0)).toLoadRect.idx i')) ∧ σ' = σ₃) rd_vt ⟨rfl, rfl⟩) fun vt σ₄ ⟨hvt, hσ⟩ => ?_
  subst hσ
  have ho : ∀ (a : Fin 2) (l d : Fin 128), oTile (oVal vt (pCat2 p)) a (ix2 l d) = outV X Q K (tileH (tileOf i0 a) (seg l)) (tPos (tileOf i0 a) l) d := fun a l d => by
    refine (oTile_apply _ a l d).trans ?_
    refine oVal_val hn vt p a d l _ _ ((tPos_lt _ l).trans_le (by have := ntp_le i0 a; omega)) (fun r => ?_) fun r => hp a r l
    rw [hvt]
    exact (congrArg σ₄.vt (idx2 d r d ⟨r.val, by omega⟩ (by simp) (by simp))).trans (hR₃.vt _ _)
  generalize oVal vt (pCat2 p) = ot at ho ⊢
  have hO : σ₄.o = σ₂.o := hK.1
  refine Tr_mono (Tr_forN (fun k σ' => Ready X K σ' ∧ (∀ a : Fin 2, a.val < k → TileDone X Q K (tileOf i0 a) 4 σ'.o) ∧ ∀ h C, Done X Q K σ₂.o h C → Done X Q K σ'.o h C)
    ⟨hR₃, fun a h => absurd h (by omega), fun h C hD => by rw [hO]; exact hD⟩ fun a σ' ⟨h1, h2, h3⟩ => ?_) fun _ σ' ⟨h1, h2, h3⟩ => ⟨h1, fun a => h2 a a.isLt, h3⟩
  refine Tr_mono (Tr_forN (fun k σ'' => Ready X K σ'' ∧ TileDone X Q K (tileOf i0 a) k σ''.o ∧ ∀ h C, Done X Q K σ'.o h C → Done X Q K σ''.o h C)
    ⟨h1, fun s h => absurd h (by omega), fun h C hD => hD⟩ fun s σ'' ⟨g1, g2, g3⟩ => ?_) fun _ σ'' ⟨g1, g2, g3⟩ => ⟨g1, fun b hb s hs => ?_, fun h C hD => g3 h C (h3 h C hD)⟩
  · refine Tr_mono (oStep_tr g1 (oTile ot a) (tileOf i0 a) s (ho a)) fun _ σ₆ ⟨k1, k2, k3⟩ => ⟨k1, fun s' hs' => ?_, fun h C hD => k3 h C (g3 h C hD)⟩
    rcases Nat.lt_succ_iff_lt_or_eq.mp hs' with hs' | hs'
    · exact k3 _ _ (g2 s' hs')
    · obtain rfl : s' = s := Fin.ext hs'
      exact k2
  · rcases Nat.lt_succ_iff_lt_or_eq.mp hb with hb | hb
    · exact g3 _ _ (h2 b hb s hs)
    · obtain rfl : b = a := Fin.ext hb
      exact g2 s hs

theorem covered (h : Fin 14) (C : Fin 20) : ∃ i0 ∈ pairs, ∃ (a : Fin 2) (s : Fin 4), tileH (tileOf i0 a) s = h ∧ tileC (tileOf i0 a) s = C := by
  revert h C; decide +kernel

theorem body_tr (hX : Good X Q K) {lsc : Ideal .f32} (hl : lsc = (lsR : EReal)) (σ : St Ideal) :
    Tr defs 𝒱 c R X (body R lsc pairs) σ fun _ σ' => ∀ h t d, σ'.o (ix3 0 t ⟨128 * h.val + d.val, by omega⟩) = outV X Q K h t d := by
  unfold body
  refine Tr_bind (setup_tr hX hl σ) fun _ σ₁ hR => ?_
  refine Tr_mono (Tr_forL (fun l σ' => Ready X K σ' ∧ ∀ i0 ∈ pairs, i0 ∉ l → ∀ a, TileDone X Q K (tileOf i0 a) 4 σ'.o)
    (fun i0 l σ' ⟨h1, h2⟩ => Tr_mono (pairStep_tr hX h1 i0) fun _ σ'' ⟨g1, g2, g3⟩ => ⟨g1, fun j hj hjl a s hs => ?_⟩) pairs σ₁ ⟨hR, fun i0 h hn => absurd h hn⟩)
      fun _ σ' ⟨_, h2⟩ h t d => ?_
  · by_cases hji : j = i0
    · subst hji; exact g2 a s hs
    · exact g3 _ _ (h2 j hj (fun hm => by rcases List.mem_cons.mp hm with hm | hm; exact hji hm; exact hjl hm) a s hs)
  · obtain ⟨i0, hi, a, s, hh, hC⟩ := covered h (kb t)
    have := h2 i0 hi (by simp) a s s.isLt
    rw [hh, hC] at this
    exact this t d rfl

end Proof01k

end
-- ==== Proof.Ref.lean ====
/-
The reference's value: every entry of its result is the attention over the scaled queries, keys and values of its batch entry and key head.
-/
module

public import proofs.«01_k».proof.Proof.Gen.ReferenceIdeal.Frame
public import proofs.«01_k».proof.Proof.RefScores
public import proofs.«01_k».proof.Proof.RefPow
public import proofs.«01_k».proof.Proof.RefSum
public import proofs.«01_k».proof.Proof.Value
public import Idealize.ShloMosaic.Lib.Pipeline.Value

@[expose] public section

set_option maxRecDepth 16384

noncomputable section

namespace Cert.ReferenceIdeal.Gen

open Idealize.ShloMosaic Idealize.ShloMosaic.TcCoe
open Proof01k (Ins Good qv kv vv qr kb pw score outV att lgt blkExp)

variable {X : Ins Ideal} {Q : Fin 14 → Fin 640 → Fin 128 → ℝ} {K : Fin 640 → Fin 128 → ℝ}
variable {x0 : Vec Ideal S3x640x28x128 .fp8e4m3} {x1 : Vec Ideal S3x640x28x4 .i8} {x2 : Vec Ideal S3x640x2x128 .fp8e4m3}
variable {x3 : Vec Ideal S3x640x2x4 .i8} {x4 : Vec Ideal S3x640x2x128 .fp8e4m3} {x5 : Vec Ideal S3x20x2x128 .i8}
variable {b : Fin 3} {g : Fin 2}

/-- The blocks a grid point reads are the arguments at its batch entry and key head. -/
structure Same (X : Ins Ideal) (x0 : Vec Ideal S3x640x28x128 .fp8e4m3) (x1 : Vec Ideal S3x640x28x4 .i8) (x2 : Vec Ideal S3x640x2x128 .fp8e4m3)
    (x3 : Vec Ideal S3x640x2x4 .i8) (x4 : Vec Ideal S3x640x2x128 .fp8e4m3) (x5 : Vec Ideal S3x20x2x128 .i8) (b : Fin 3) (g : Fin 2) : Prop where
  q : ∀ (h : Fin 14) (t : Fin 640) (d : Fin 128), X.q (ValueIdx.ix4 0 h t d) = x0 (ix4 b t ⟨g.val * 14 + h.val, by omega⟩ d)
  qs : ∀ (h : Fin 14) (e : Fin 4) (t : Fin 640), X.qs (ValueIdx.ix4 0 h e t) = x1 (ix4 b t ⟨g.val * 14 + h.val, by omega⟩ e)
  k : ∀ (t : Fin 640) (d : Fin 128), X.k (ValueIdx.ix4 0 0 t d) = x2 (ix4 b t g d)
  ks : ∀ (e : Fin 4) (t : Fin 640), X.ks (ValueIdx.ix4 0 0 e t) = x3 (ix4 b t g e)
  v : ∀ (t : Fin 640) (d : Fin 128), X.v (ValueIdx.ix4 0 0 t d) = x4 (ix4 b t g d)
  vs : ∀ (e : Fin 20) (d : Fin 128), X.vs (ValueIdx.ix4 0 0 e d) = x5 (ix4 b e g d)

theorem query_eq (hG : Good X Q K) (hS : Same X x0 x1 x2 x3 x4 x5 b g) (h : Fin 14) (t : Fin 640) (d : Fin 128) :
    k0_pay2 x0 x1 (ix5 b t g h d) = ((qv X Q h t d : ℝ) : EReal) := by
  have h1 := pay2_apply x0 x1 b t g h d
  rw [← hS.q h t d, hG.q h t d] at h1
  refine h1.trans ?_
  rw [← EReal.coe_mul]
  unfold qv
  rw [hS.qs h (qr d) t]
  rfl

theorem key_eq (hG : Good X Q K) (hS : Same X x0 x1 x2 x3 x4 x5 b g) (t : Fin 640) (d : Fin 128) :
    k0_pay3 x2 x3 (ix4 b t g d) = ((kv X K t d : ℝ) : EReal) := by
  have h1 := pay3_apply x2 x3 b t g d
  rw [← hS.k t d, hG.k t d] at h1
  refine h1.trans ?_
  rw [← EReal.coe_mul]
  unfold kv
  rw [hS.ks (qr d) t]
  rfl

theorem value_eq (hS : Same X x0 x1 x2 x3 x4 x5 b g) (N : Fin 6) (hb : (⟨N.val / 2, by omega⟩ : Fin 3) = b) (hg : (⟨N.val % 2, by omega⟩ : Fin 2) = g)
    (t : Fin 640) (d : Fin 128) : k0_pay5 (k0_pay4 x4) x5 (ix3 N t d) = vv X t d := by
  refine (pay5_apply x4 x5 N t d).trans ?_
  unfold vv
  rw [hb, hg, hS.v t d, hS.vs (kb t) d]
  rfl

/-- The causal mask, read on the words of two positions. -/
theorem mask_select (k t : Fin 640) (a c : EReal) :
    Scalar.select (IntOp.cmpi .sle (BitVec.ofNat 32 k.val) (BitVec.ofNat 32 t.val)) a c = if k.val ≤ t.val then a else c := by
  have hk : (BitVec.ofNat 32 k.val).toInt = k.val := by
    rw [BitVec.toInt_eq_toNat_cond, BitVec.toNat_ofNat]; have := k.isLt; split_ifs <;> omega
  have ht : (BitVec.ofNat 32 t.val).toInt = t.val := by
    rw [BitVec.toInt_eq_toNat_cond, BitVec.toNat_ofNat]; have := t.isLt; split_ifs <;> omega
  have h : IntOp.cmpi .sle (BitVec.ofNat 32 k.val) (BitVec.ofNat 32 t.val) = BitVec.ofBool (decide (k.val ≤ t.val)) := by
    show BitVec.ofBool (BitVec.sle _ _) = _
    congr 1
    unfold BitVec.sle
    rw [hk, ht]
    exact decide_eq_decide.mpr Int.ofNat_le
  rw [h]
  by_cases hc : k.val ≤ t.val
  · rw [if_pos hc, decide_eq_true hc]; rfl
  · rw [if_neg hc, decide_eq_false hc]; rfl

theorem raw_eq {v14 : FVec Ideal S3x640x2x14x128 .bf16} {v29 : FVec Ideal S3x640x2x128 .bf16}
    (h14 : ∀ h t d, v14 (ix5 b t g h d) = ((qv X Q h t d : ℝ) : EReal)) (h29 : ∀ t d, v29 (ix4 b t g d) = ((kv X K t d : ℝ) : EReal))
    (N : Fin 6) (hb : (⟨N.val / 2, by omega⟩ : Fin 3) = b) (hg : (⟨N.val % 2, by omega⟩ : Fin 2) = g) (h : Fin 14) (t k : Fin 640) :
    rawScore v14 v29 N h t k = lgt (score X Q K h t) t.val k.val := by
  unfold rawScore lgt score
  rw [hb, hg, dif_pos k.isLt, scale_named, Proof01k.ofBits_neg_inf, mask_select]
  refine if_congr Iff.rfl ?_ rfl
  rw [EReal.coe_mul, Proof01k.coe_sum]
  refine congrArg (fun z : EReal => z * _) (Finset.sum_congr rfl fun d _ => ?_)
  rw [h14, h29, ← EReal.coe_mul, mul_comm]

theorem weight_eq {v14 : FVec Ideal S3x640x2x14x128 .bf16} {v29 : FVec Ideal S3x640x2x128 .bf16}
    (h14 : ∀ h t d, v14 (ix5 b t g h d) = ((qv X Q h t d : ℝ) : EReal)) (h29 : ∀ t d, v29 (ix4 b t g d) = ((kv X K t d : ℝ) : EReal))
    (N : Fin 6) (hb : (⟨N.val / 2, by omega⟩ : Fin 3) = b) (hg : (⟨N.val % 2, by omega⟩ : Fin 2) = g) (h : Fin 14) (t : Fin 640) (a : Fin 20) (e : Fin 32) :
    k0_pay6 v14 v29 (ix5 N h t a e) = ((att (score X Q K h t) t.val (a.val * 32 + e.val) : ℝ) : EReal) := by
  rw [pay6_apply, Proof01k.ofBits_neg_inf]
  simp only [raw_eq h14 h29 N hb hg]
  exact Proof01k.softmax_row _ _ _

/-- Every entry of the reference's result is the attention of its head. -/
theorem out_apply (hG : Good X Q K) (hS : Same X x0 x1 x2 x3 x4 x5 b g) (h : Fin 14) (t : Fin 640) (d : Fin 128) :
    out0_6 x0 x1 x2 x3 x4 x5 (ix3 b t ⟨1792 * g.val + (128 * h.val + d.val), by omega⟩) = outV X Q K h t d := by
  have h10 : k0_pay10 x0 x1 x2 x3 x4 x5 = k0_pay2 x0 x1 := by
    unfold k0_pay10
    rw [View.ld_unit_zero (by decide), View.ld_unit_zero (by decide)]
  have h11 : k0_pay11 x0 x1 x2 x3 x4 x5 = k0_pay3 x2 x3 := by
    unfold k0_pay11
    rw [View.ld_unit_zero (by decide), View.ld_unit_zero (by decide)]
  unfold out0_6
  rw [View.canon_unit_zero (by decide), View.ld_unit_zero (by decide), View.ld_unit_zero (by decide), h10, h11]
  have h14 := fun h t d => query_eq hG hS h t d
  have h29 := fun t d => key_eq hG hS t d
  generalize k0_pay2 x0 x1 = v14 at h14 ⊢
  generalize k0_pay3 x2 x3 = v29 at h29 ⊢
  have hN : ∃ N : Fin 6, N.val = b.val * 2 + g.val := ⟨⟨b.val * 2 + g.val, by omega⟩, rfl⟩
  obtain ⟨N, hN⟩ := hN
  have hb : (⟨N.val / 2, by omega⟩ : Fin 3) = b := Fin.ext (by show N.val / 2 = _; omega)
  have hg : (⟨N.val % 2, by omega⟩ : Fin 2) = g := Fin.ext (by show N.val % 2 = _; omega)
  have hv := fun t d => value_eq hS N hb hg t d
  generalize k0_pay5 (k0_pay4 x4) x5 = v50 at hv ⊢
  rw [pay1_apply v50 _ _ _ _ b t _ N (Fin.ext (by show N.val = b.val * 2 + (1792 * g.val + (128 * h.val + d.val)) / 1792; omega))
    h (Fin.ext (by show h.val = ((1792 * g.val + (128 * h.val + d.val)) / 128 % 14 * 640 + t.val) / 640; omega))
    d (Fin.ext (by show d.val = (1792 * g.val + (128 * h.val + d.val)) % 128; omega))]
  unfold outV
  refine Finset.sum_congr rfl fun x _ => ?_
  rw [hv x d, show (Scalar.ofBits .f32 0x00000000#32 : Ideal .f32) = (0 : EReal) from Ideal.ofBits_zero_f32, exp_apply, Proof01k.ofBits_448, Proof01k.ofBits_neg448,
    weight_eq h14 h29 N hb hg]
  have hq := Proof01k.quantise_row (fun e : Fin 32 => att (score X Q K h t) t.val (x.val / 32 * 32 + e.val)) (fun e => Proof01k.att_nonneg _ _ _)
    ⟨x.val % 32, by omega⟩ (a := k0_pay7 v14 v29 (ix4 N h t ⟨x.val / 32, by omega⟩)) (by
      rw [pay7_apply, Proof01k.ofBits_neg_inf]
      refine congrArg (fun f => Finset.univ.fold max (⊥ : EReal) f) (funext fun e => ?_)
      rw [weight_eq h14 h29 N hb hg]
      rfl)
  refine (congrArg (fun z : EReal => z * vv X x d) hq).trans ?_
  beta_reduce
  rw [mul_comm]
  exact congrArg (fun n : ℕ => vv X x d * ((att (score X Q K h t) t.val n : ℝ) : EReal)) (Nat.div_add_mod' x.val 32)

end Cert.ReferenceIdeal.Gen

end
-- ==== Proof.RefRun.lean ====
/-
The run of the reference: its one call reads the arguments whole, so its result array is the body's value of them.
-/
module

public import proofs.«01_k».proof.Proof.Gen.ReferenceIdeal.Frame
public import Idealize.ShloMosaic.Lib.Pipeline.ValueKit

@[expose] public section

set_option maxRecDepth 16384

noncomputable section

namespace Cert.ReferenceIdeal.Gen

open Idealize.ShloMosaic Idealize.ShloMosaic.TcCoe Idealize.SL.Sem

variable (m : (ℓ : Loc nD τ sig) → Buf (Elt Ideal) ℓ) (ρ : Dev nD → PrngReg)

theorem V_v0 (c : Dev nD) : V m c main_v0 = (bitcastToFloat .fp8e4m3 (m ((c : Thread nD τ).loc main_arg0)) : FVec Ideal S3x640x28x128 .fp8e4m3) := by
  unfold_abbrev_sides
  after_results
theorem V_v1 (c : Dev nD) : V m c main_v1 = (bitcastToFloat .fp8e4m3 (m ((c : Thread nD τ).loc main_arg2)) : FVec Ideal S3x640x2x128 .fp8e4m3) := by
  unfold_abbrev_sides
  after_results
theorem V_v2 (c : Dev nD) : V m c main_v2 = (bitcastToFloat .fp8e4m3 (m ((c : Thread nD τ).loc main_arg4)) : FVec Ideal S3x640x2x128 .fp8e4m3) := by
  unfold_abbrev_sides
  after_results

theorem idx (t : Fin cfg0.N) : win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0] ∧ win0_6.index t = ![0, 0, 0] := by
  revert t; decide +kernel

theorem blk0 (c : Dev nD) (t : Fin cfg0.N) : iblk m c 0 t = V m c main_v0 := by
  funext y
  show V m c main_v0 (((cfg0.win 0).blk t).view.emb y) = _
  blk_ext [(idx t).1]
theorem blk1 (c : Dev nD) (t : Fin cfg0.N) : iblk m c 1 t = V m c main_arg1 := by
  funext y
  show V m c main_arg1 (((cfg0.win 1).blk t).view.emb y) = _
  blk_ext [(idx t).2.1]
theorem blk2 (c : Dev nD) (t : Fin cfg0.N) : iblk m c 2 t = V m c main_v1 := by
  funext y
  show V m c main_v1 (((cfg0.win 2).blk t).view.emb y) = _
  blk_ext [(idx t).2.2.1]
theorem blk3 (c : Dev nD) (t : Fin cfg0.N) : iblk m c 3 t = V m c main_arg3 := by
  funext y
  show V m c main_arg3 (((cfg0.win 3).blk t).view.emb y) = _
  blk_ext [(idx t).2.2.2.1]
theorem blk4 (c : Dev nD) (t : Fin cfg0.N) : iblk m c 4 t = V m c main_v2 := by
  funext y
  show V m c main_v2 (((cfg0.win 4).blk t).view.emb y) = _
  blk_ext [(idx t).2.2.2.2.1]
theorem blk5 (c : Dev nD) (t : Fin cfg0.N) : iblk m c 5 t = V m c main_arg5 := by
  funext y
  show V m c main_arg5 (((cfg0.win 5).blk t).view.emb y) = _
  blk_ext [(idx t).2.2.2.2.2.1]

/-- The reference's result as a function of its arguments' bytes. -/
def result (a0 : IVec S3x640x28x128 8) (a1 : IVec S3x640x28x4 8) (a2 : IVec S3x640x2x128 8) (a3 : IVec S3x640x2x4 8) (a4 : IVec S3x640x2x128 8)
    (a5 : IVec S3x20x2x128 8) : Vec Ideal S3x640x3584 .bf16 :=
  out0_6 (F := Ideal) (bitcastToFloat .fp8e4m3 a0 : FVec Ideal S3x640x28x128 .fp8e4m3) a1 (bitcastToFloat .fp8e4m3 a2 : FVec Ideal S3x640x2x128 .fp8e4m3) a3
    (bitcastToFloat .fp8e4m3 a4 : FVec Ideal S3x640x2x128 .fp8e4m3) a5

theorem final_out (c : Dev nD) : (dats m 0 c).arrAt 6 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_after_last 6 t0_0 (by decide +kernel) _ fun j => ?_
  rw [after0_6, blk0, blk1, blk2, blk3, blk4, blk5, V_v0, V_v1, V_v2, V_main_arg1, V_main_arg3, V_main_arg5]
  blk_simp
  rfl

end Cert.ReferenceIdeal.Gen

end
-- ==== Proof.Algebra.lean ====
/-
The value claim: the kernel's result and the reference's are the same array.
-/
module

public import proofs.«01_k».proof.Defs
public import proofs.«01_k».proof.Proof.Blocks
public import proofs.«01_k».proof.Proof.Codes
public import proofs.«01_k».proof.Proof.Ref
public import proofs.«01_k».proof.Proof.RefRun

@[expose] public section

set_option maxRecDepth 16384

noncomputable section

namespace Cert.KernelIdeal.Gen

open Idealize.ShloMosaic Idealize.ShloMosaic.TcCoe Idealize.SL.Sem
open Proof01k (Good Tr Tr_mono body_tr code_real pre_q pre_qs pre_k pre_ks pre_vs)

variable (m : (ℓ : Loc nD τ sig) → Buf (Elt Ideal) ℓ) (ρ : Dev nD → PrngReg)

/-- What the result array is shown to hold: the reference's result of the kernel's arguments. -/
abbrev goal (c : Dev nD) : Vec Ideal Cert.ReferenceIdeal.S3x640x3584 .bf16 :=
  Cert.ReferenceIdeal.Gen.result (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- A grid point's blocks are the arguments at its batch entry and key head. -/
theorem same (c : Dev nD) (t : Fin cfg0.N) : Cert.ReferenceIdeal.Gen.Same (ins m c t)
    (bitcastToFloat .fp8e4m3 (show IVec S3x640x28x128 8 from m ((c : Thread nD τ).loc main_arg0)) : FVec Ideal S3x640x28x128 .fp8e4m3) (m ((c : Thread nD τ).loc main_arg1))
    (bitcastToFloat .fp8e4m3 (show IVec S3x640x2x128 8 from m ((c : Thread nD τ).loc main_arg2)) : FVec Ideal S3x640x2x128 .fp8e4m3) (m ((c : Thread nD τ).loc main_arg3))
    (bitcastToFloat .fp8e4m3 (show IVec S3x640x2x128 8 from m ((c : Thread nD τ).loc main_arg4)) : FVec Ideal S3x640x2x128 .fp8e4m3) (m ((c : Thread nD τ).loc main_arg5)) (gb t) (gg t) where
  q h p d := by rw [← ix4_eq_valueIdx]; exact ins_q m c t h p d
  qs h e p := by rw [← ix4_eq_valueIdx]; exact ins_qs m c t h e p
  k p d := by rw [← ix4_eq_valueIdx]; exact ins_k m c t p d
  ks e p := by rw [← ix4_eq_valueIdx]; exact ins_ks m c t e p
  v p d := by rw [← ix4_eq_valueIdx]; exact ins_v m c t p d
  vs e d := by rw [← ix4_eq_valueIdx]; exact ins_vs m c t e d

theorem real_of {x : EReal} (h : ∃ r : ℝ, x = (r : EReal)) : x = ((x.toReal : ℝ) : EReal) := by
  obtain ⟨r, rfl⟩ := h; rfl

/-- The real queries and keys of a grid point's blocks. -/
def realQ (c : Dev nD) (t : Fin cfg0.N) (h : Fin 14) (p : Fin 640) (d : Fin 128) : ℝ := EReal.toReal ((ins m c t).q (ValueIdx.ix4 0 h p d))
def realK (c : Dev nD) (t : Fin cfg0.N) (p : Fin 640) (d : Fin 128) : ℝ := EReal.toReal ((ins m c t).k (ValueIdx.ix4 0 0 p d))

theorem good (hpre : Cert.Pre_KernelIdeal_real_blocks m) (c : Dev nD) (t : Fin cfg0.N) : Good (ins m c t) (realQ m c t) (realK m c t) where
  q h p d := real_of (by
    rw [(same m c t).q]
    have := pre_q _ _ _ _ _ _ (hpre c).1 (ix4 (gb t) p ⟨(gg t).val * 14 + h.val, by have := (gg t).isLt; omega⟩ d)
    exact code_real _ this.1 this.2)
  k p d := real_of (by
    rw [(same m c t).k]
    have := pre_k _ _ _ _ _ _ (hpre c).2.2.1 (ix4 (gb t) p (gg t) d)
    exact code_real _ this.1 this.2)
  qs h e p := by rw [(same m c t).qs]; exact pre_qs _ _ _ _ _ _ (hpre c).2.1 _
  ks e p := by rw [(same m c t).ks]; exact pre_ks _ _ _ _ _ _ (hpre c).2.2.2.1 _
  vs e d := by rw [(same m c t).vs]; exact pre_vs _ _ _ _ _ _ (hpre c).2.2.2.2 _

/-- What each point leaves in the output block. -/
def leaves : Out (F := Ideal) := fun c t y => goal m c (((cfg0.win 6).blk t).view.emb y)

theorem col_split (y : S1x640x1792.Idx) : ∃ (h : Fin 14) (p : Fin 640) (d : Fin 128), y = ix3 0 p ⟨128 * h.val + d.val, by omega⟩ := by
  have h0 : (y 0).val < 1 := (y 0).isLt
  have h1 : (y 1).val < 640 := (y 1).isLt
  have h2 : (y 2).val < 1792 := (y 2).isLt
  refine ⟨⟨(y 2).val / 128, by omega⟩, ⟨(y 1).val, h1⟩, ⟨(y 2).val % 128, by omega⟩, ?_⟩
  funext a
  match a with
  | ⟨0, _⟩ => exact Fin.ext (by show (y 0).val = 0; omega)
  | ⟨1, _⟩ => rfl
  | ⟨2, _⟩ => exact Fin.ext (by show (y 2).val = 128 * ((y 2).val / 128) + (y 2).val % 128; omega)

theorem body_leaves (hpre : Cert.Pre_KernelIdeal_real_blocks m) (c : Dev nD) (t : Fin cfg0.N) (σ) :
    Tr (F := Ideal) defs₀ Variants.none c (refs t) (ins m c t) (loops t) σ fun _ σ' => σ'.o = leaves m c t := by
  refine Tr_mono (body_tr (good m hpre c t) (lsc := Named.named κ "logit_scale" 0x3E0293EE#32) rfl σ) fun _ σ' h => funext fun y => ?_
  obtain ⟨r, p, d, rfl⟩ := col_split y
  have h1 := h r p d
  rw [← ix3_eq_valueIdx] at h1
  have h2 := Cert.ReferenceIdeal.Gen.out_apply (good m hpre c t) (same m c t) r p d
  refine h1.trans (h2.symm.trans ?_)
  unfold leaves
  rw [out_emb]
  rfl

/-- The kernel's run: its result array is the reference's result, its arguments are unchanged. -/
theorem run_result (hpre : Cert.Pre_KernelIdeal_real_blocks m) : θ_run defs (onTc (τ := τ) (main (F := Ideal))) (s₀ m ρ) fun r => ∀ c : Dev nD,
      r.2.mem ((c : Thread nD τ).loc main_v9) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 6).trans (final_out m (leaves m) c (goal m c) fun _ _ => rfl),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_value m ρ (leaves m) (body_leaves m hpre))

end Cert.KernelIdeal.Gen

namespace Cert.Proof

open Idealize.ShloMosaic Idealize.SL.Sem

/-- Where the codes are numbers and the scale bytes normal, kernel and reference end with the same result. -/
theorem algebraic : Cert.algebraic_KernelIdeal_ReferenceIdeal_pre_real_blocks := by
  intro m ρ m' ρ' hpre hagree
  refine ⟨fun c => Cert.KernelIdeal.Gen.goal m c, Cert.KernelIdeal.Gen.run_result m ρ hpre, ?_⟩
  have hr := θ_run_and (Cert.ReferenceIdeal.Gen.run_main (F := Ideal) m' ρ') (Cert.ReferenceIdeal.Gen.frame (F := Ideal) m' ρ')
  refine (θ_run Cert.ReferenceIdeal.defs _ _).mono (fun _ h c => ⟨((h.1 c).1 6).trans ((Cert.ReferenceIdeal.Gen.final_out m' c).trans ?_), h.2.1 c⟩) hr
  obtain ⟨h0, h1, h2, h3, h4, h5⟩ := hagree c
  show Cert.ReferenceIdeal.Gen.result _ _ _ _ _ _ = Cert.KernelIdeal.Gen.goal m c
  unfold Cert.KernelIdeal.Gen.goal
  rw [h0, h1, h2, h3, h4, h5]

end Cert.Proof

end
-- ==== Proof.lean ====
/- The certificate: each program's frame, and that each ideal program is the original with its named constants, and that the two ideal programs end with the same result. -/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_real_blocks
public import proofs.«01_k».proof.Proof.RunKernel
public import proofs.«01_k».proof.Proof.RunKernelIdeal
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Pre_real_blocks.Gen.facts,
  fun m ρ _ => Cert.Kernel.Gen.frame_run m ρ, fun m ρ _ => Cert.KernelIdeal.Gen.frame_run m ρ, fun m ρ _ => Cert.KernelIdeal.Gen.frame_run m ρ,
  fun m ρ _ => Cert.ReferenceIdeal.Gen.frame m ρ, fun m ρ _ => Cert.ReferenceIdeal.Gen.frame m ρ, fun m ρ _ => Cert.Reference.Gen.frame m ρ,
  IdealRules.named_const.statement Cert.KernelIdeal.κ "logit_scale" .f32 0x3E0293EE#32 (((Real.sqrt 128)⁻¹ * (Real.log 2)⁻¹ : ℝ) : EReal) rfl,
  ⟨IdealRules.named_const.statement Cert.ReferenceIdeal.κ "score_scale" .f32 0x3DB504F3#32 (((Real.sqrt 128)⁻¹ : ℝ) : EReal) rfl,
    IdealRules.named_const.statement Cert.ReferenceIdeal.κ "ln2" .f32 0x3F317218#32 ((Real.log 2 : ℝ) : EReal) rfl⟩,
  algebraic⟩

end Cert.Proof

end
